-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128x100000 : Shape := ⟨2, ![128, 100000]⟩
abbrev S32x100000 : Shape := ⟨2, ![32, 100000]⟩
abbrev S32 : Shape := ⟨1, ![32]⟩
abbrev S32x1 : Shape := ⟨2, ![32, 1]⟩
abbrev S32x1024 : Shape := ⟨2, ![32, 1024]⟩
abbrev S32x672 : Shape := ⟨2, ![32, 672]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S32x100000, .f32⟩
  | .local _ .vmem, ⟨1, _⟩ => ⟨S32x100000, .f32⟩
  | .local _ .vmem, ⟨2, _⟩ => ⟨S32x100000, .f32⟩
  | .local _ .vmem, ⟨3, _⟩ => ⟨S32x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c97_i32 : BitVec 32 := 97#32
  let v16 : BitVec 32 := Scalar.addi c0_i32 c97_i32
  let c1_i32 : BitVec 32 := 1#32
  ⟨c0_i32, v16, c1_i32⟩
def k0_off1 (k0_t1 : Fin k0_t1_loop.trips) : Fin 2 → Nat :=
  let c0_63 : Index := 0#32
  let c0_i32 : BitVec 32 := 0#32
  let c1_i32 : BitVec 32 := 1#32
  let arg3 : BitVec 32 := Scf.iv c0_i32 c1_i32 k0_t1
  let c1024_i32 : BitVec 32 := 1024#32
  let v237 : BitVec 32 := Scalar.muli arg3 c1024_i32
  let v238 : Index := Scalar.indexCast v237
  ![0, v238.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 533
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S128x100000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .f32⟩
  | 121 => ⟨S_, .f32⟩
  | 122 => ⟨S_, .f32⟩
  | 123 => ⟨S1x1, .f32⟩
  | 124 => ⟨S1x1, .f32⟩
  | 125 => ⟨S1, .i32⟩
  | 126 => ⟨S_, .i32⟩
  | 127 => ⟨S1, .i32⟩
  | _ => ⟨S128x100000, .f32⟩

abbrev hbmTy0_2 (i : Nat) : BufTy := match i % 128 with
  | 0 => ⟨S_, .i32⟩
  | 1 => ⟨S128x100000, .i64⟩
  | 2 => ⟨S128x100000, .i64⟩
  | 3 => ⟨S_, .i64⟩
  | 4 => ⟨S128x100000, .i64⟩
  | 5 => ⟨S128x100000, .i64⟩
  | 6 => ⟨S_, .i64⟩
  | 7 => ⟨S128x100000, .i64⟩
  | 8 => ⟨S128x100000, .i64⟩
  | 9 => ⟨S128x100000, .i64⟩
  | 10 => ⟨S_, .i64⟩
  | 11 => ⟨S128x100000, .i64⟩
  | 12 => ⟨S128x100000, .i64⟩
  | 13 => ⟨S128x100000, .i32⟩
  | 14 => ⟨S128x100000, .i32⟩
  | 15 => ⟨S_, .i32⟩
  | 16 => ⟨S_, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_3 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .f32⟩
  | 117 => ⟨S_, .f32⟩
  | 118 => ⟨S128x100000, .f32⟩
  | 119 => ⟨S128x100000, .f32⟩
  | 120 => ⟨S1x1, .f32⟩
  | 121 => ⟨S128x100000, .f32⟩
  | 122 => ⟨S128x100000, .f32⟩
  | 123 => ⟨S128x100000, .f32⟩
  | 124 => ⟨S128x100000, .f32⟩
  | 125 => ⟨S128x100000, .f32⟩
  | 126 => ⟨S128x100000, .f32⟩
  | 127 => ⟨S128x100000, .f32⟩
  | _ => ⟨S128x100000, .f32⟩

abbrev hbmTy0_4 (i : Nat) : BufTy := match i % 128 with
  | 0 => ⟨S128x100000, .f32⟩
  | 1 => ⟨S128x100000, .f32⟩
  | 2 => ⟨S128x100000, .f32⟩
  | 3 => ⟨S128x100000, .f32⟩
  | 4 => ⟨S_, .f32⟩
  | 5 => ⟨S128x100000, .f32⟩
  | 6 => ⟨S128x100000, .f32⟩
  | 7 => ⟨S_, .f32⟩
  | 8 => ⟨S128, .f32⟩
  | 9 => ⟨S_, .f32⟩
  | 10 => ⟨S128, .f32⟩
  | 11 => ⟨S128, .f32⟩
  | 12 => ⟨S128x1, .f32⟩
  | 13 => ⟨S128x100000, .f32⟩
  | 14 => ⟨S128x100000, .f32⟩
  | 15 => ⟨S128x100000, .f32⟩
  | 16 => ⟨S_, .f32⟩
  | 17 => ⟨S128, .f32⟩
  | 18 => ⟨S128x1, .f32⟩
  | 19 => ⟨S128x100000, .f32⟩
  | 20 => ⟨S128x100000, .f32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_cst : Ref sig .tc := ⟨.hbm, 248, rfl⟩
abbrev main_cst_3 : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_c : Ref sig .tc := ⟨.hbm, 259, rfl⟩
abbrev main_call1_v9 : Ref sig .tc := ⟨.hbm, 260, rfl⟩
abbrev main_call1_v10 : Ref sig .tc := ⟨.hbm, 261, rfl⟩
abbrev main_call1_c_0 : Ref sig .tc := ⟨.hbm, 262, rfl⟩
abbrev main_call1_v11 : Ref sig .tc := ⟨.hbm, 263, rfl⟩
abbrev main_call1_v12 : Ref sig .tc := ⟨.hbm, 264, rfl⟩
abbrev main_call1_v13 : Ref sig .tc := ⟨.hbm, 265, rfl⟩
abbrev main_call1_c_1 : Ref sig .tc := ⟨.hbm, 266, rfl⟩
abbrev main_call1_v14 : Ref sig .tc := ⟨.hbm, 267, rfl⟩
abbrev main_call1_v15 : Ref sig .tc := ⟨.hbm, 268, rfl⟩
abbrev main_call1_v16 : Ref sig .tc := ⟨.hbm, 269, rfl⟩
abbrev main_call1_v17 : Ref sig .tc := ⟨.hbm, 270, rfl⟩
abbrev main_call1_call0_v0 : Ref sig .tc := ⟨.hbm, 271, rfl⟩
abbrev main_call1_call0_c : Ref sig .tc := ⟨.hbm, 272, rfl⟩
abbrev main_call1_call0_v1 : Ref sig .tc := ⟨.hbm, 273, rfl⟩
abbrev main_call1_call0_v2 : Ref sig .tc := ⟨.hbm, 274, rfl⟩
abbrev main_call1_call0_v3 : Ref sig .tc := ⟨.hbm, 275, rfl⟩
abbrev main_call1_call0_v4 : Ref sig .tc := ⟨.hbm, 276, rfl⟩
abbrev main_call1_call0_v5 : Ref sig .tc := ⟨.hbm, 277, rfl⟩
abbrev main_call1_call0_v6 : Ref sig .tc := ⟨.hbm, 278, rfl⟩
abbrev main_call1_call0_c_0 : Ref sig .tc := ⟨.hbm, 279, rfl⟩
abbrev main_call1_call0_v7 : Ref sig .tc := ⟨.hbm, 280, rfl⟩
abbrev main_call1_call0_v8 : Ref sig .tc := ⟨.hbm, 281, rfl⟩
abbrev main_call1_call0_c_1 : Ref sig .tc := ⟨.hbm, 282, rfl⟩
abbrev main_call1_call0_v9 : Ref sig .tc := ⟨.hbm, 283, rfl⟩
abbrev main_call1_call0_v10 : Ref sig .tc := ⟨.hbm, 284, rfl⟩
abbrev main_call1_call0_v11 : Ref sig .tc := ⟨.hbm, 285, rfl⟩
abbrev main_call1_call0_v12 : Ref sig .tc := ⟨.hbm, 286, rfl⟩
abbrev main_call1_call0_v13 : Ref sig .tc := ⟨.hbm, 287, rfl⟩
abbrev main_call1_call0_c_2 : Ref sig .tc := ⟨.hbm, 288, rfl⟩
abbrev main_call1_call0_v14 : Ref sig .tc := ⟨.hbm, 289, rfl⟩
abbrev main_call1_call0_v15 : Ref sig .tc := ⟨.hbm, 290, rfl⟩
abbrev main_call1_call0_c_3 : Ref sig .tc := ⟨.hbm, 291, rfl⟩
abbrev main_call1_call0_v16 : Ref sig .tc := ⟨.hbm, 292, rfl⟩
abbrev main_call1_call0_v17 : Ref sig .tc := ⟨.hbm, 293, rfl⟩
abbrev main_call1_call0_v18 : Ref sig .tc := ⟨.hbm, 294, rfl⟩
abbrev main_call1_call0_v19 : Ref sig .tc := ⟨.hbm, 295, rfl⟩
abbrev main_call1_call0_v20 : Ref sig .tc := ⟨.hbm, 296, rfl⟩
abbrev main_call1_call0_c_4 : Ref sig .tc := ⟨.hbm, 297, rfl⟩
abbrev main_call1_call0_v21 : Ref sig .tc := ⟨.hbm, 298, rfl⟩
abbrev main_call1_call0_v22 : Ref sig .tc := ⟨.hbm, 299, rfl⟩
abbrev main_call1_call0_c_5 : Ref sig .tc := ⟨.hbm, 300, rfl⟩
abbrev main_call1_call0_v23 : Ref sig .tc := ⟨.hbm, 301, rfl⟩
abbrev main_call1_call0_v24 : Ref sig .tc := ⟨.hbm, 302, rfl⟩
abbrev main_call1_call0_v25 : Ref sig .tc := ⟨.hbm, 303, rfl⟩
abbrev main_call1_call0_v26 : Ref sig .tc := ⟨.hbm, 304, rfl⟩
abbrev main_call1_call0_v27 : Ref sig .tc := ⟨.hbm, 305, rfl⟩
abbrev main_call1_call0_c_6 : Ref sig .tc := ⟨.hbm, 306, rfl⟩
abbrev main_call1_call0_v28 : Ref sig .tc := ⟨.hbm, 307, rfl⟩
abbrev main_call1_call0_v29 : Ref sig .tc := ⟨.hbm, 308, rfl⟩
abbrev main_call1_call0_c_7 : Ref sig .tc := ⟨.hbm, 309, rfl⟩
abbrev main_call1_call0_v30 : Ref sig .tc := ⟨.hbm, 310, rfl⟩
abbrev main_call1_call0_v31 : Ref sig .tc := ⟨.hbm, 311, rfl⟩
abbrev main_call1_call0_v32 : Ref sig .tc := ⟨.hbm, 312, rfl⟩
abbrev main_call1_call0_v33 : Ref sig .tc := ⟨.hbm, 313, rfl⟩
abbrev main_call1_call0_v34 : Ref sig .tc := ⟨.hbm, 314, rfl⟩
abbrev main_call1_call0_v35 : Ref sig .tc := ⟨.hbm, 315, rfl⟩
abbrev main_call1_call0_v36 : Ref sig .tc := ⟨.hbm, 316, rfl⟩
abbrev main_call1_call0_v37 : Ref sig .tc := ⟨.hbm, 317, rfl⟩
abbrev main_call1_call0_c_8 : Ref sig .tc := ⟨.hbm, 318, rfl⟩
abbrev main_call1_call0_v38 : Ref sig .tc := ⟨.hbm, 319, rfl⟩
abbrev main_call1_call0_v39 : Ref sig .tc := ⟨.hbm, 320, rfl⟩
abbrev main_call1_call0_v40 : Ref sig .tc := ⟨.hbm, 321, rfl⟩
abbrev main_call1_call0_c_9 : Ref sig .tc := ⟨.hbm, 322, rfl⟩
abbrev main_call1_call0_v41 : Ref sig .tc := ⟨.hbm, 323, rfl⟩
abbrev main_call1_call0_v42 : Ref sig .tc := ⟨.hbm, 324, rfl⟩
abbrev main_call1_call0_c_10 : Ref sig .tc := ⟨.hbm, 325, rfl⟩
abbrev main_call1_call0_v43 : Ref sig .tc := ⟨.hbm, 326, rfl⟩
abbrev main_call1_call0_v44 : Ref sig .tc := ⟨.hbm, 327, rfl⟩
abbrev main_call1_call0_v45 : Ref sig .tc := ⟨.hbm, 328, rfl⟩
abbrev main_call1_call0_v46 : Ref sig .tc := ⟨.hbm, 329, rfl⟩
abbrev main_call1_call0_v47 : Ref sig .tc := ⟨.hbm, 330, rfl⟩
abbrev main_call1_call0_c_11 : Ref sig .tc := ⟨.hbm, 331, rfl⟩
abbrev main_call1_call0_v48 : Ref sig .tc := ⟨.hbm, 332, rfl⟩
abbrev main_call1_call0_v49 : Ref sig .tc := ⟨.hbm, 333, rfl⟩
abbrev main_call1_call0_c_12 : Ref sig .tc := ⟨.hbm, 334, rfl⟩
abbrev main_call1_call0_v50 : Ref sig .tc := ⟨.hbm, 335, rfl⟩
abbrev main_call1_call0_v51 : Ref sig .tc := ⟨.hbm, 336, rfl⟩
abbrev main_call1_call0_v52 : Ref sig .tc := ⟨.hbm, 337, rfl⟩
abbrev main_call1_call0_v53 : Ref sig .tc := ⟨.hbm, 338, rfl⟩
abbrev main_call1_call0_v54 : Ref sig .tc := ⟨.hbm, 339, rfl⟩
abbrev main_call1_call0_c_13 : Ref sig .tc := ⟨.hbm, 340, rfl⟩
abbrev main_call1_call0_v55 : Ref sig .tc := ⟨.hbm, 341, rfl⟩
abbrev main_call1_call0_v56 : Ref sig .tc := ⟨.hbm, 342, rfl⟩
abbrev main_call1_call0_c_14 : Ref sig .tc := ⟨.hbm, 343, rfl⟩
abbrev main_call1_call0_v57 : Ref sig .tc := ⟨.hbm, 344, rfl⟩
abbrev main_call1_call0_v58 : Ref sig .tc := ⟨.hbm, 345, rfl⟩
abbrev main_call1_call0_v59 : Ref sig .tc := ⟨.hbm, 346, rfl⟩
abbrev main_call1_call0_v60 : Ref sig .tc := ⟨.hbm, 347, rfl⟩
abbrev main_call1_call0_v61 : Ref sig .tc := ⟨.hbm, 348, rfl⟩
abbrev main_call1_call0_c_15 : Ref sig .tc := ⟨.hbm, 349, rfl⟩
abbrev main_call1_call0_v62 : Ref sig .tc := ⟨.hbm, 350, rfl⟩
abbrev main_call1_call0_v63 : Ref sig .tc := ⟨.hbm, 351, rfl⟩
abbrev main_call1_call0_c_16 : Ref sig .tc := ⟨.hbm, 352, rfl⟩
abbrev main_call1_call0_v64 : Ref sig .tc := ⟨.hbm, 353, rfl⟩
abbrev main_call1_call0_v65 : Ref sig .tc := ⟨.hbm, 354, rfl⟩
abbrev main_call1_call0_v66 : Ref sig .tc := ⟨.hbm, 355, rfl⟩
abbrev main_call1_call0_v67 : Ref sig .tc := ⟨.hbm, 356, rfl⟩
abbrev main_call1_call0_v68 : Ref sig .tc := ⟨.hbm, 357, rfl⟩
abbrev main_call1_call0_v69 : Ref sig .tc := ⟨.hbm, 358, rfl⟩
abbrev main_call1_call0_v70 : Ref sig .tc := ⟨.hbm, 359, rfl⟩
abbrev main_call1_call0_v71 : Ref sig .tc := ⟨.hbm, 360, rfl⟩
abbrev main_call1_call0_c_17 : Ref sig .tc := ⟨.hbm, 361, rfl⟩
abbrev main_call1_call0_v72 : Ref sig .tc := ⟨.hbm, 362, rfl⟩
abbrev main_call1_call0_v73 : Ref sig .tc := ⟨.hbm, 363, rfl⟩
abbrev main_call1_call0_v74 : Ref sig .tc := ⟨.hbm, 364, rfl⟩
abbrev main_call1_call0_c_18 : Ref sig .tc := ⟨.hbm, 365, rfl⟩
abbrev main_call1_call0_v75 : Ref sig .tc := ⟨.hbm, 366, rfl⟩
abbrev main_call1_call0_v76 : Ref sig .tc := ⟨.hbm, 367, rfl⟩
abbrev main_call1_call0_c_19 : Ref sig .tc := ⟨.hbm, 368, rfl⟩
abbrev main_call1_call0_v77 : Ref sig .tc := ⟨.hbm, 369, rfl⟩
abbrev main_call1_call0_v78 : Ref sig .tc := ⟨.hbm, 370, rfl⟩
abbrev main_call1_call0_v79 : Ref sig .tc := ⟨.hbm, 371, rfl⟩
abbrev main_call1_call0_v80 : Ref sig .tc := ⟨.hbm, 372, rfl⟩
abbrev main_call1_call0_v81 : Ref sig .tc := ⟨.hbm, 373, rfl⟩
abbrev main_call1_call0_c_20 : Ref sig .tc := ⟨.hbm, 374, rfl⟩
abbrev main_call1_call0_v82 : Ref sig .tc := ⟨.hbm, 375, rfl⟩
abbrev main_call1_call0_v83 : Ref sig .tc := ⟨.hbm, 376, rfl⟩
abbrev main_call1_call0_c_21 : Ref sig .tc := ⟨.hbm, 377, rfl⟩
abbrev main_call1_call0_v84 : Ref sig .tc := ⟨.hbm, 378, rfl⟩
abbrev main_call1_call0_v85 : Ref sig .tc := ⟨.hbm, 379, rfl⟩
abbrev main_call1_call0_v86 : Ref sig .tc := ⟨.hbm, 380, rfl⟩
abbrev main_call1_call0_v87 : Ref sig .tc := ⟨.hbm, 381, rfl⟩
abbrev main_call1_call0_v88 : Ref sig .tc := ⟨.hbm, 382, rfl⟩
abbrev main_call1_call0_c_22 : Ref sig .tc := ⟨.hbm, 383, rfl⟩
abbrev main_call1_call0_v89 : Ref sig .tc := ⟨.hbm, 384, rfl⟩
abbrev main_call1_call0_v90 : Ref sig .tc := ⟨.hbm, 385, rfl⟩
abbrev main_call1_call0_c_23 : Ref sig .tc := ⟨.hbm, 386, rfl⟩
abbrev main_call1_call0_v91 : Ref sig .tc := ⟨.hbm, 387, rfl⟩
abbrev main_call1_call0_v92 : Ref sig .tc := ⟨.hbm, 388, rfl⟩
abbrev main_call1_call0_v93 : Ref sig .tc := ⟨.hbm, 389, rfl⟩
abbrev main_call1_call0_v94 : Ref sig .tc := ⟨.hbm, 390, rfl⟩
abbrev main_call1_call0_v95 : Ref sig .tc := ⟨.hbm, 391, rfl⟩
abbrev main_call1_call0_c_24 : Ref sig .tc := ⟨.hbm, 392, rfl⟩
abbrev main_call1_call0_v96 : Ref sig .tc := ⟨.hbm, 393, rfl⟩
abbrev main_call1_call0_v97 : Ref sig .tc := ⟨.hbm, 394, rfl⟩
abbrev main_call1_call0_c_25 : Ref sig .tc := ⟨.hbm, 395, rfl⟩
abbrev main_call1_call0_v98 : Ref sig .tc := ⟨.hbm, 396, rfl⟩
abbrev main_call1_call0_v99 : Ref sig .tc := ⟨.hbm, 397, rfl⟩
abbrev main_call1_call0_v100 : Ref sig .tc := ⟨.hbm, 398, rfl⟩
abbrev main_call1_call0_v101 : Ref sig .tc := ⟨.hbm, 399, rfl⟩
abbrev main_call1_call0_v102 : Ref sig .tc := ⟨.hbm, 400, rfl⟩
abbrev main_call1_call0_v103 : Ref sig .tc := ⟨.hbm, 401, rfl⟩
abbrev main_call1_call0_v104 : Ref sig .tc := ⟨.hbm, 402, rfl⟩
abbrev main_call1_call0_v105 : Ref sig .tc := ⟨.hbm, 403, rfl⟩
abbrev main_call1_call0_c_26 : Ref sig .tc := ⟨.hbm, 404, rfl⟩
abbrev main_call1_call0_v106 : Ref sig .tc := ⟨.hbm, 405, rfl⟩
abbrev main_call1_call0_v107 : Ref sig .tc := ⟨.hbm, 406, rfl⟩
abbrev main_call1_call0_v108 : Ref sig .tc := ⟨.hbm, 407, rfl⟩
abbrev main_call1_call0_c_27 : Ref sig .tc := ⟨.hbm, 408, rfl⟩
abbrev main_call1_call0_v109 : Ref sig .tc := ⟨.hbm, 409, rfl⟩
abbrev main_call1_call0_v110 : Ref sig .tc := ⟨.hbm, 410, rfl⟩
abbrev main_call1_call0_c_28 : Ref sig .tc := ⟨.hbm, 411, rfl⟩
abbrev main_call1_call0_v111 : Ref sig .tc := ⟨.hbm, 412, rfl⟩
abbrev main_call1_call0_v112 : Ref sig .tc := ⟨.hbm, 413, rfl⟩
abbrev main_call1_call0_v113 : Ref sig .tc := ⟨.hbm, 414, rfl⟩
abbrev main_call1_call0_v114 : Ref sig .tc := ⟨.hbm, 415, rfl⟩
abbrev main_call1_call0_v115 : Ref sig .tc := ⟨.hbm, 416, rfl⟩
abbrev main_call1_call0_c_29 : Ref sig .tc := ⟨.hbm, 417, rfl⟩
abbrev main_call1_call0_v116 : Ref sig .tc := ⟨.hbm, 418, rfl⟩
abbrev main_call1_call0_v117 : Ref sig .tc := ⟨.hbm, 419, rfl⟩
abbrev main_call1_call0_c_30 : Ref sig .tc := ⟨.hbm, 420, rfl⟩
abbrev main_call1_call0_v118 : Ref sig .tc := ⟨.hbm, 421, rfl⟩
abbrev main_call1_call0_v119 : Ref sig .tc := ⟨.hbm, 422, rfl⟩
abbrev main_call1_call0_v120 : Ref sig .tc := ⟨.hbm, 423, rfl⟩
abbrev main_call1_call0_v121 : Ref sig .tc := ⟨.hbm, 424, rfl⟩
abbrev main_call1_call0_v122 : Ref sig .tc := ⟨.hbm, 425, rfl⟩
abbrev main_call1_call0_c_31 : Ref sig .tc := ⟨.hbm, 426, rfl⟩
abbrev main_call1_call0_v123 : Ref sig .tc := ⟨.hbm, 427, rfl⟩
abbrev main_call1_call0_v124 : Ref sig .tc := ⟨.hbm, 428, rfl⟩
abbrev main_call1_call0_c_32 : Ref sig .tc := ⟨.hbm, 429, rfl⟩
abbrev main_call1_call0_v125 : Ref sig .tc := ⟨.hbm, 430, rfl⟩
abbrev main_call1_call0_v126 : Ref sig .tc := ⟨.hbm, 431, rfl⟩
abbrev main_call1_call0_v127 : Ref sig .tc := ⟨.hbm, 432, rfl⟩
abbrev main_call1_call0_v128 : Ref sig .tc := ⟨.hbm, 433, rfl⟩
abbrev main_call1_call0_v129 : Ref sig .tc := ⟨.hbm, 434, rfl⟩
abbrev main_call1_call0_c_33 : Ref sig .tc := ⟨.hbm, 435, rfl⟩
abbrev main_call1_call0_v130 : Ref sig .tc := ⟨.hbm, 436, rfl⟩
abbrev main_call1_call0_v131 : Ref sig .tc := ⟨.hbm, 437, rfl⟩
abbrev main_call1_call0_c_34 : Ref sig .tc := ⟨.hbm, 438, rfl⟩
abbrev main_call1_call0_v132 : Ref sig .tc := ⟨.hbm, 439, rfl⟩
abbrev main_call1_call0_v133 : Ref sig .tc := ⟨.hbm, 440, rfl⟩
abbrev main_call1_call0_v134 : Ref sig .tc := ⟨.hbm, 441, rfl⟩
abbrev main_call1_call0_v135 : Ref sig .tc := ⟨.hbm, 442, rfl⟩
abbrev main_call1_call0_v136 : Ref sig .tc := ⟨.hbm, 443, rfl⟩
abbrev main_call1_call0_v137 : Ref sig .tc := ⟨.hbm, 444, rfl⟩
abbrev main_call1_call0_v138 : Ref sig .tc := ⟨.hbm, 445, rfl⟩
abbrev main_call1_call0_v139 : Ref sig .tc := ⟨.hbm, 446, rfl⟩
abbrev main_call1_call0_c_35 : Ref sig .tc := ⟨.hbm, 447, rfl⟩
abbrev main_call1_call0_v140 : Ref sig .tc := ⟨.hbm, 448, rfl⟩
abbrev main_call1_call0_v141 : Ref sig .tc := ⟨.hbm, 449, rfl⟩
abbrev main_call1_call0_v142 : Ref sig .tc := ⟨.hbm, 450, rfl⟩
abbrev main_call1_call0_c_36 : Ref sig .tc := ⟨.hbm, 451, rfl⟩
abbrev main_call1_call0_v143 : Ref sig .tc := ⟨.hbm, 452, rfl⟩
abbrev main_call1_call0_v144 : Ref sig .tc := ⟨.hbm, 453, rfl⟩
abbrev main_call1_call0_c_37 : Ref sig .tc := ⟨.hbm, 454, rfl⟩
abbrev main_call1_call0_v145 : Ref sig .tc := ⟨.hbm, 455, rfl⟩
abbrev main_call1_call0_v146 : Ref sig .tc := ⟨.hbm, 456, rfl⟩
abbrev main_call1_call0_v147 : Ref sig .tc := ⟨.hbm, 457, rfl⟩
abbrev main_call1_call0_v148 : Ref sig .tc := ⟨.hbm, 458, rfl⟩
abbrev main_call1_call0_v149 : Ref sig .tc := ⟨.hbm, 459, rfl⟩
abbrev main_call1_call0_c_38 : Ref sig .tc := ⟨.hbm, 460, rfl⟩
abbrev main_call1_call0_v150 : Ref sig .tc := ⟨.hbm, 461, rfl⟩
abbrev main_call1_call0_v151 : Ref sig .tc := ⟨.hbm, 462, rfl⟩
abbrev main_call1_call0_c_39 : Ref sig .tc := ⟨.hbm, 463, rfl⟩
abbrev main_call1_call0_v152 : Ref sig .tc := ⟨.hbm, 464, rfl⟩
abbrev main_call1_call0_v153 : Ref sig .tc := ⟨.hbm, 465, rfl⟩
abbrev main_call1_call0_v154 : Ref sig .tc := ⟨.hbm, 466, rfl⟩
abbrev main_call1_call0_v155 : Ref sig .tc := ⟨.hbm, 467, rfl⟩
abbrev main_call1_call0_v156 : Ref sig .tc := ⟨.hbm, 468, rfl⟩
abbrev main_call1_call0_c_40 : Ref sig .tc := ⟨.hbm, 469, rfl⟩
abbrev main_call1_call0_v157 : Ref sig .tc := ⟨.hbm, 470, rfl⟩
abbrev main_call1_call0_v158 : Ref sig .tc := ⟨.hbm, 471, rfl⟩
abbrev main_call1_call0_c_41 : Ref sig .tc := ⟨.hbm, 472, rfl⟩
abbrev main_call1_call0_v159 : Ref sig .tc := ⟨.hbm, 473, rfl⟩
abbrev main_call1_call0_v160 : Ref sig .tc := ⟨.hbm, 474, rfl⟩
abbrev main_call1_call0_v161 : Ref sig .tc := ⟨.hbm, 475, rfl⟩
abbrev main_call1_call0_v162 : Ref sig .tc := ⟨.hbm, 476, rfl⟩
abbrev main_call1_call0_v163 : Ref sig .tc := ⟨.hbm, 477, rfl⟩
abbrev main_call1_call0_c_42 : Ref sig .tc := ⟨.hbm, 478, rfl⟩
abbrev main_call1_call0_v164 : Ref sig .tc := ⟨.hbm, 479, rfl⟩
abbrev main_call1_call0_v165 : Ref sig .tc := ⟨.hbm, 480, rfl⟩
abbrev main_call1_call0_c_43 : Ref sig .tc := ⟨.hbm, 481, rfl⟩
abbrev main_call1_call0_v166 : Ref sig .tc := ⟨.hbm, 482, rfl⟩
abbrev main_call1_call0_v167 : Ref sig .tc := ⟨.hbm, 483, rfl⟩
abbrev main_call1_call0_v168 : Ref sig .tc := ⟨.hbm, 484, rfl⟩
abbrev main_call1_call0_v169 : Ref sig .tc := ⟨.hbm, 485, rfl⟩
abbrev main_call1_call0_v170 : Ref sig .tc := ⟨.hbm, 486, rfl⟩
abbrev main_call1_v18_0 : Ref sig .tc := ⟨.hbm, 487, rfl⟩
abbrev main_call1_call0_v172 : Ref sig .tc := ⟨.hbm, 488, rfl⟩
abbrev main_call1_call0_v173 : Ref sig .tc := ⟨.hbm, 489, rfl⟩
abbrev main_call1_call0_c_44 : Ref sig .tc := ⟨.hbm, 490, rfl⟩
abbrev main_call1_call0_v174 : Ref sig .tc := ⟨.hbm, 491, rfl⟩
abbrev main_call1_v18_1 : Ref sig .tc := ⟨.hbm, 492, rfl⟩
abbrev main_call1_v19 : Ref sig .tc := ⟨.hbm, 493, rfl⟩
abbrev main_call1_c_2 : Ref sig .tc := ⟨.hbm, 494, rfl⟩
abbrev main_call1_v20 : Ref sig .tc := ⟨.hbm, 495, rfl⟩
abbrev main_call1_v21 : Ref sig .tc := ⟨.hbm, 496, rfl⟩
abbrev main_call1_c_3 : Ref sig .tc := ⟨.hbm, 497, rfl⟩
abbrev main_call1_v22 : Ref sig .tc := ⟨.hbm, 498, rfl⟩
abbrev main_call1_v23 : Ref sig .tc := ⟨.hbm, 499, rfl⟩
abbrev main_call1_v24 : Ref sig .tc := ⟨.hbm, 500, rfl⟩
abbrev main_call1_cst : Ref sig .tc := ⟨.hbm, 501, rfl⟩
abbrev main_call1_v25 : Ref sig .tc := ⟨.hbm, 502, rfl⟩
abbrev main_call1_v26 : Ref sig .tc := ⟨.hbm, 503, rfl⟩
abbrev main_call1_v27 : Ref sig .tc := ⟨.hbm, 504, rfl⟩
abbrev main_call1_v28 : Ref sig .tc := ⟨.hbm, 505, rfl⟩
abbrev main_call1_v29 : Ref sig .tc := ⟨.hbm, 506, rfl⟩
abbrev main_call1_v30 : Ref sig .tc := ⟨.hbm, 507, rfl⟩
abbrev main_call1_v31 : Ref sig .tc := ⟨.hbm, 508, rfl⟩
abbrev main_call1_v32 : Ref sig .tc := ⟨.hbm, 509, rfl⟩
abbrev main_v8 : Ref sig .tc := ⟨.hbm, 510, rfl⟩
abbrev main_v9 : Ref sig .tc := ⟨.hbm, 511, rfl⟩
abbrev main_v10 : Ref sig .tc := ⟨.hbm, 512, rfl⟩
abbrev main_v11 : Ref sig .tc := ⟨.hbm, 513, rfl⟩
abbrev main_v12 : Ref sig .tc := ⟨.hbm, 514, rfl⟩
abbrev main_v13 : Ref sig .tc := ⟨.hbm, 515, rfl⟩
abbrev main_cst_4 : Ref sig .tc := ⟨.hbm, 516, rfl⟩
abbrev main_v14 : Ref sig .tc := ⟨.hbm, 517, rfl⟩
abbrev main_v15 : Ref sig .tc := ⟨.hbm, 518, rfl⟩
abbrev main_cst_5 : Ref sig .tc := ⟨.hbm, 519, rfl⟩
abbrev main_v16 : Ref sig .tc := ⟨.hbm, 520, rfl⟩
abbrev main_cst_6 : Ref sig .tc := ⟨.hbm, 521, rfl⟩
abbrev main_v17 : Ref sig .tc := ⟨.hbm, 522, rfl⟩
abbrev main_v18 : Ref sig .tc := ⟨.hbm, 523, rfl⟩
abbrev main_v19 : Ref sig .tc := ⟨.hbm, 524, rfl⟩
abbrev main_v20 : Ref sig .tc := ⟨.hbm, 525, rfl⟩
abbrev main_v21 : Ref sig .tc := ⟨.hbm, 526, rfl⟩
abbrev main_v22 : Ref sig .tc := ⟨.hbm, 527, rfl⟩
abbrev main_cst_7 : Ref sig .tc := ⟨.hbm, 528, rfl⟩
abbrev main_v23 : Ref sig .tc := ⟨.hbm, 529, rfl⟩
abbrev main_v24 : Ref sig .tc := ⟨.hbm, 530, rfl⟩
abbrev main_v25 : Ref sig .tc := ⟨.hbm, 531, rfl⟩
abbrev main_v26 : Ref sig .tc := ⟨.hbm, 532, rfl⟩

abbrev nD : Nat := 1
abbrev τ : Topo := Topo.v7x

variable {F : FTy → Type} [FloatOps F]
-- ==== Proof.KFrame.lean ====
/-
  The kernel before idealization: its body on a block, and from it the frame of the whole run. The same steps as for the
  idealized kernel, over the program's own names.
-/
module

public import proofs.«01_k».proof.Proof.Gen.Kernel.Loops
public import proofs.«01_k».proof.Proof.Gen.Kernel.Frame
public import Idealize.ShloMosaic.Lib.WritesUnit
public import Idealize.ShloMosaic.Lib.Pointwise.Index
public import Idealize.ShloMosaic.Lib.Pipeline.Value
public import Idealize.ShloMosaic.Lib.Claim

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first of the two words that the last injection of the hash is made from, from the counter's low words. -/
def bitsA (lin : IVec S32x1024 32) : IVec S32x1024 32 :=
  k0_pay47
    (k0_pay37 (k0_pay24 (k0_pay12 lin) (k0_pay13 lin) 1#32) (k0_pay25 (k0_pay12 lin) (k0_pay13 lin) 1#32) (k0_pay26 (k0_pay12 lin) (k0_pay13 lin) 1#32))
    (k0_pay38 (k0_pay24 (k0_pay12 lin) (k0_pay13 lin) 1#32) (k0_pay25 (k0_pay12 lin) (k0_pay13 lin) 1#32) (k0_pay26 (k0_pay12 lin) (k0_pay13 lin) 1#32))

/-- The second one. -/
def bitsB (lin : IVec S32x1024 32) : IVec S32x1024 32 :=
  k0_pay48
    (k0_pay37 (k0_pay24 (k0_pay12 lin) (k0_pay13 lin) 1#32) (k0_pay25 (k0_pay12 lin) (k0_pay13 lin) 1#32) (k0_pay26 (k0_pay12 lin) (k0_pay13 lin) 1#32))
    (k0_pay38 (k0_pay24 (k0_pay12 lin) (k0_pay13 lin) 1#32) (k0_pay25 (k0_pay12 lin) (k0_pay13 lin) 1#32) (k0_pay26 (k0_pay12 lin) (k0_pay13 lin) 1#32))

/-- The chunk that a trip stores: from the whole block `v0`, the chunk `x` of it and the counter's low words. -/
def chunk (v0 : Vec F S32x100000 .f32) (x : Vec F S32x1024 .f32) (lin : IVec S32x1024 32) : FVec F S32x1024 .f32 :=
  k0_pay53 (k0_pay3 (k0_pay49 v0) x) (bitsA lin) (bitsB lin) 5#32

/-- The rectangle of columns of trip `k`. -/
abbrev rect (k : Fin k0_t1_loop.trips) : Rect S32x100000 := Rect.unit (s := S32x100000) (k0_off1 k) S32x1024.size (k0_off1_inb k)

/-- The rectangle of the last 672 columns. -/
abbrev rectTail : Rect S32x100000 := Rect.unit (s := S32x100000) ![0, 99328] S32x672.size inb_S32x100000_S32x672_0_99328

/-- The columns of trip `k` start at `1024 k`. -/
theorem off_eq (k : Fin k0_t1_loop.trips) : k0_off1 k = ![0, 1024 * k.val] := by
  revert k; decide +kernel

theorem trips_eq : k0_t1_loop.trips = 97 := by decide

/-- What the loop carries before trip `n`: the counters' low words, and the sums of the chunks so far. -/
def carry (v0 : Vec F S32x100000 .f32) (i : grid0.Coords) : ℕ → IVec S32x1024 32 × FVec F S32x1024 .f32
  | 0 => (k0_pay51 i, k0_pay52)
  | n + 1 => if h : n < k0_t1_loop.trips then
      (k0_pay54 (carry v0 i n).1, addf (carry v0 i n).2 (chunk v0 (View.ld v0 (rect ⟨n, h⟩)) (carry v0 i n).1))
    else carry v0 i n

section Trip

variable (𝒱 : Variants) (c : Dev nD) (bd : Option 𝒱.V) (i : grid0.Coords) (arg1 : Memref sig .tc .vmem S32x100000 .f32) (harg1 : arg1.IsWhole) (arg2 : Memref sig .tc .vmem S32x100000 .f32) (harg2 : arg2.IsWhole) (v0 : Vec F S32x100000 .f32) (X_arg1 : BufTy.Contents (Elt F) arg1.view.ty)

/-- A trip yields the counters of the next chunk and the running sums with its chunk added. -/
theorem tripR_eq (k : Fin k0_t1_loop.trips) (acc : IVec S32x1024 32 × FVec F S32x1024 .f32) :
    tripR_k0_t1 𝒱 c bd i arg1 harg1 arg2 harg2 v0 X_arg1 k acc
      = (k0_pay54 acc.1, addf acc.2 (chunk v0 (View.ld (arg1.view.read (Elt F) X_arg1) (rect k)) acc.1)) := by
  unfold tripR_k0_t1 trip_k0_t1
  rfl

/-- A trip stores its chunk at its columns. -/
theorem tripL_eq (k : Fin k0_t1_loop.trips) (acc : IVec S32x1024 32 × FVec F S32x1024 .f32) :
    tripL_k0_t1 𝒱 c bd i arg1 harg1 arg2 harg2 v0 X_arg1 k acc
      = [⟨rect k, chunk v0 (View.ld (arg1.view.read (Elt F) X_arg1) (rect k)) acc.1⟩] := by
  unfold tripL_k0_t1 trip_k0_t1
  rfl

/-- The value the loop carries. -/
theorem st_fst (hX : arg1.view.read (Elt F) X_arg1 = v0) : ∀ n, n ≤ k0_t1_loop.trips →
    (st_k0_t1 𝒱 c bd i arg1 harg1 arg2 harg2 v0 X_arg1 (k0_pay51 i, k0_pay52) n).1 = carry v0 i n
  | 0, _ => rfl
  | n + 1, h => by
    have e := st_k0_t1_succ (F := F) 𝒱 c bd i arg1 harg1 arg2 harg2 v0 X_arg1 (k0_pay51 i, k0_pay52) ⟨n, h⟩
    have e' := st_fst hX n (Nat.le_of_lt h)
    rw [e]
    dsimp only
    rw [tripR_eq, e', hX, carry, dif_pos (show n < k0_t1_loop.trips from h)]

/-- The stores of one more trip. -/
theorem st_snd_succ (hX : arg1.view.read (Elt F) X_arg1 = v0) (n : ℕ) (h : n < k0_t1_loop.trips) :
    (st_k0_t1 𝒱 c bd i arg1 harg1 arg2 harg2 v0 X_arg1 (k0_pay51 i, k0_pay52) (n + 1)).2
      = ⟨rect ⟨n, h⟩, chunk v0 (View.ld v0 (rect ⟨n, h⟩)) (carry v0 i n).1⟩
        :: (st_k0_t1 𝒱 c bd i arg1 harg1 arg2 harg2 v0 X_arg1 (k0_pay51 i, k0_pay52) n).2 := by
  have e := st_k0_t1_succ (F := F) 𝒱 c bd i arg1 harg1 arg2 harg2 v0 X_arg1 (k0_pay51 i, k0_pay52) ⟨n, h⟩
  rw [e]
  dsimp only
  rw [tripL_eq, st_fst 𝒱 c bd i arg1 harg1 arg2 harg2 v0 X_arg1 hX n (Nat.le_of_lt h), hX]
  rfl

/-- Of the block the kernel leaves unscaled, the entry at row `r` and column `1024 q + l`. -/
def entry (v0 : Vec F S32x100000 .f32) (i : grid0.Coords) (q : Fin k0_t1_loop.trips) (r : Fin 32) (l : Fin 1024) : F .f32 :=
  chunk v0 (View.ld v0 (rect q)) (carry v0 i q.val).1 (ix2 r l)

/-- After `n` trips the buffer holds the chunks of those trips. -/
theorem read_chunks (f : BufTy.Contents (Elt F) arg2.view.ty) (hX : arg1.view.read (Elt F) X_arg1 = v0)
    (q : Fin k0_t1_loop.trips) (l : Fin 1024) (y : S32x100000.Idx) (hy : (y 1).val = 1024 * q.val + l.val) :
    ∀ n, n ≤ k0_t1_loop.trips → q.val < n →
      arg2.view.read (Elt F) (arg2.view.writes (Elt F) f
        (st_k0_t1 𝒱 c bd i arg1 harg1 arg2 harg2 v0 X_arg1 (k0_pay51 i, k0_pay52) n).2) y = entry v0 i q (y 0) l
  | n + 1, h, hq => by
    have hl := l.isLt
    rw [st_snd_succ 𝒱 c bd i arg1 harg1 arg2 harg2 v0 X_arg1 hX n h]
    by_cases hqn : q.val = n
    · rw [View.read_writes_cons_unit_of_mem (s := S32x100000) (size := S32x1024.size) _ _ _ _ _ y (ix2 (y 0) l) (off_eq ⟨n, h⟩) (fun a => by
        match a with
        | ⟨0, _⟩ => exact (Nat.zero_add _).symm
        | ⟨1, _⟩ => show (y 1).val = 1024 * n + l.val; omega)]
      subst hqn
      rfl
    · rw [View.read_writes_cons_unit_of_not_mem (s := S32x100000) (size := S32x1024.size) _ _ _ _ _ y (off_eq ⟨n, h⟩) 1 (by
        left; show (y 1).val < 1024 * n; omega)]
      exact read_chunks f hX q l y hy n (Nat.le_of_lt h) (by omega)

end Trip

/-- The first word of the hash before its last injection is done, at the last 672 columns, and the second one after
    four of the five groups of rounds: what the last part of the tail's computation starts from. -/
def tailAB (i : grid0.Coords) : IVec S32x672 32 × IVec S32x672 32 :=
  (k0_pay84 (k0_pay72 (k0_pay58 i) (k0_pay59 i) (k0_pay60 i) k0_pay61) (k0_pay73 (k0_pay58 i) (k0_pay59 i) (k0_pay60 i) k0_pay61) k0_pay74,
   k0_pay85 (k0_pay72 (k0_pay58 i) (k0_pay59 i) (k0_pay60 i) k0_pay61) (k0_pay73 (k0_pay58 i) (k0_pay59 i) (k0_pay60 i) k0_pay61) k0_pay74)

/-- The uniform draws at the last 672 columns, before they are clamped from below. -/
def tailU (i : grid0.Coords) : FVec F S32x672 .f32 :=
  k0_pay98 (k0_pay94 (tailAB i).1 (tailAB i).2) (k0_pay95 (tailAB i).1 (tailAB i).2) (k0_pay96 (tailAB i).1 (tailAB i).2) k0_pay97

/-- The last 672 columns of the unscaled block. -/
def tail (v0 : Vec F S32x100000 .f32) (i : grid0.Coords) : FVec F S32x672 .f32 :=
  k0_pay1 (k0_pay57 v0 (View.ld v0 rectTail)) (tailU i) k0_pay99

/-- The unscaled block: the chunks of the 97 trips side by side, then the last 672 columns. -/
def weighted (v0 : Vec F S32x100000 .f32) (i : grid0.Coords) : Vec F S32x100000 .f32 := fun y =>
  if h : (y 1).val < 99328 then
    entry v0 i ⟨(y 1).val / 1024, by rw [trips_eq]; omega⟩ (y 0) ⟨(y 1).val % 1024, Nat.mod_lt _ (by decide)⟩
  else tail v0 i (ix2 (y 0) ⟨(y 1).val - 99328, by have : (y 1).val < 100000 := (y 1).isLt; omega⟩)

/-- The block the kernel leaves: the unscaled block times the reciprocals of its row sums. -/
def block (v0 : Vec F S32x100000 .f32) (i : grid0.Coords) : Vec F S32x100000 .f32 :=
  k0_pay2 (k0_pay56 (carry v0 i k0_t1_loop.trips).2) (k0_pay57 v0 (View.ld v0 rectTail)) (tailU i) k0_pay99 (weighted v0 i)

theorem hz : (![0, 0] : Fin 2 → Nat) = fun _ => 0 := funext fun a => by fin_cases a <;> rfl

/-- After the loop and the store of the last columns the buffer holds the unscaled block. -/
theorem read_weighted (c : Dev nD) (i : grid0.Coords) (arg1 : Memref sig .tc .vmem S32x100000 .f32) (harg1 : arg1.IsWhole) (arg2 : Memref sig .tc .vmem S32x100000 .f32) (harg2 : arg2.IsWhole)
    (v0 : Vec F S32x100000 .f32) (X : BufTy.Contents (Elt F) arg1.view.ty) (hX : arg1.view.read (Elt F) X = v0) (f : BufTy.Contents (Elt F) arg2.view.ty) :
    arg2.view.read (Elt F) (arg2.view.writes (Elt F) f (⟨rectTail, tail v0 i⟩
        :: (st_k0_t1 Variants.none c none i arg1 harg1 arg2 harg2 v0 X (k0_pay51 i, k0_pay52) k0_t1_loop.trips).2)) = weighted v0 i := by
  funext y
  have hy : (y 1).val < 100000 := (y 1).isLt
  unfold weighted
  by_cases h : (y 1).val < 99328
  · rw [dif_pos h, View.read_writes_cons_unit_of_not_mem (s := S32x100000) (size := S32x672.size) _ _ _ _ _ y rfl 1 (Or.inl h)]
    exact read_chunks Variants.none c none i arg1 harg1 arg2 harg2 v0 X f hX ⟨(y 1).val / 1024, by rw [trips_eq]; omega⟩
      ⟨(y 1).val % 1024, Nat.mod_lt _ (by decide)⟩ y (Nat.div_add_mod _ _).symm _ le_rfl (Fin.isLt _)
  · rw [dif_neg h]
    exact View.read_writes_cons_unit_of_mem (s := S32x100000) (size := S32x672.size) _ _ _ _ _ y _ rfl (fun a => by
      match a with
      | ⟨0, _⟩ => exact (Nat.zero_add _).symm
      | ⟨1, _⟩ => show (y 1).val = 99328 + ((y 1).val - 99328); omega)

set_option maxHeartbeats 1000000 in
/-- The body's triple: on a block `x0` it leaves `block x0 i`, and the argument's buffer as it was. -/
theorem body_run (c : Dev nD) (i : grid0.Coords) (arg1 : Memref sig .tc .vmem S32x100000 .f32) (harg1 : arg1.IsWhole) (arg2 : Memref sig .tc .vmem S32x100000 .f32) (harg2 : arg2.IsWhole)
    (x0 : Vec F S32x100000 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ owns (c : Thread nD τ) arg2 fullShare (block x0 i)) -∗ K ⟨⟩))
          ⊢ wp frame (wpE (defs₀ (F := F)) Variants.none c none) E (cc0__gumbel_softmax_kernel i arg1 harg1 arg2 harg2) K := by
    intro E K
    simp only [cc0__gumbel_softmax_kernel_eq_skeleton]; unfold cc0__gumbel_softmax_kernel_skel
    simp only [k0_part5_eq_skeleton, k0_part6_eq_skeleton, k0_part7_eq_skeleton, k0_part8_eq_skeleton, k0_part9_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; isplitr; swap; · iexact H1
    ipureintro
    sl_unfold_words
    rw [View.read_writes_eq_canon _ _ _ (fun y => ⟨_, List.mem_cons_self, View.mem_set_unit_zero hz inb_S32x100000_S32x100000_0_0 y⟩), View.canon_cons_unit_zero hz]
    simp only [View.readAt_eq_ld, harg1.read_unread, View.ld_unit_zero (S := S32x100000) hz]
    have hw := read_weighted c i arg1 harg1 arg2 harg2 x0 (harg1.unread x0) (harg1.read_unread _) f1
    have hc := st_fst Variants.none c none i arg1 harg1 arg2 harg2 x0 (harg1.unread x0) (harg1.read_unread _) k0_t1_loop.trips le_rfl
    exact congrArg₂ (fun a b => k0_pay2 (k0_pay56 a) (k0_pay57 x0 (View.ld x0 rectTail)) (tailU i) k0_pay99 b) (congrArg Prod.snd hc) hw

variable (m : (ℓ : Loc nD τ sig) → Buf (Elt F) ℓ) (ρ : Dev nD → PrngReg)

/-- The proof data of the pipeline: after the body at a point the argument's buffer holds its block and the result's buffer
    the body's block of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => block (iblk m c 0 t) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_arg (c : Dev nD) (t : Fin cfg0.N) : (dats m 0 c).after 0 t = iblk m c 0 t := by dsimp only [dats]

theorem after_res (c : Dev nD) (t : Fin cfg0.N) : (dats m 0 c).after 1 t = block (iblk m c 0 t) (grid0.coords t) := by dsimp only [dats]

theorem before_arg (c : Dev nD) (t : Fin cfg0.N) (d) : (dats m 0 c).before 0 t d = iblk m c 0 t :=
  before0_0_of m (dats m 0 c) (A_eq m c 0) (after_arg m c) t d

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point meets its proof data. -/
theorem body_at (c : Dev nD) (t : Fin cfg0.N) :
    pre m c t ⊢ wp frame (wpE (defs₀ (F := F)) Variants.none c none) Set.univ (bodyAt0 t) (fun _ => post m c t) := by
  unfold pre post bodyAt0
  simp only [before_arg]
  rw [show (dats m 0 c).Φ t.succ = (dats m 0 c).Φ t.castSucc from rfl,
    show (dats m 0 c).owesAt () t.succ = (dats m 0 c).owesAt () t.castSucc from rfl, after_arg, after_res]
  iintro ⟨HΦ, Ho, ⟨%d0, H0⟩, ⟨%d1, H1⟩⟩
  iapply ((body_run c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The launch: every execution ends in the pipeline's final state, with every semaphore counter at zero. -/
theorem launched : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The argument ends unchanged and the semaphores at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Kernel.Value

end
-- ==== Proof.KTrip.lean ====
/-
  One trip of the kernel's loop: what it yields and what it stores, as functions of the chunk of the argument it loads.
-/
module

public import proofs.«01_k».proof.Proof.Gen.KernelIdeal.Loops
public import Idealize.ShloMosaic.Lib.WritesUnit
public import Idealize.ShloMosaic.Lib.Pointwise.Index
public import Idealize.ShloMosaic.Lib.Pipeline.Value

@[expose] public section

set_option maxRecDepth 16384

noncomputable section

namespace Cert.KernelIdeal.Value

open Idealize.ShloMosaic Idealize.ShloMosaic.TcCoe Idealize.SL Cert.KernelIdeal Cert.KernelIdeal.Gen

variable {F : FTy → Type} [FloatOps F]

/-- The first of the two words that the last injection of the hash is made from, from the counter's low words. -/
def bitsA (lin : IVec S32x1024 32) : IVec S32x1024 32 :=
  k0_pay47
    (k0_pay37 (k0_pay24 (k0_pay12 lin) (k0_pay13 lin) 1#32) (k0_pay25 (k0_pay12 lin) (k0_pay13 lin) 1#32) (k0_pay26 (k0_pay12 lin) (k0_pay13 lin) 1#32))
    (k0_pay38 (k0_pay24 (k0_pay12 lin) (k0_pay13 lin) 1#32) (k0_pay25 (k0_pay12 lin) (k0_pay13 lin) 1#32) (k0_pay26 (k0_pay12 lin) (k0_pay13 lin) 1#32))

/-- The second one. -/
def bitsB (lin : IVec S32x1024 32) : IVec S32x1024 32 :=
  k0_pay48
    (k0_pay37 (k0_pay24 (k0_pay12 lin) (k0_pay13 lin) 1#32) (k0_pay25 (k0_pay12 lin) (k0_pay13 lin) 1#32) (k0_pay26 (k0_pay12 lin) (k0_pay13 lin) 1#32))
    (k0_pay38 (k0_pay24 (k0_pay12 lin) (k0_pay13 lin) 1#32) (k0_pay25 (k0_pay12 lin) (k0_pay13 lin) 1#32) (k0_pay26 (k0_pay12 lin) (k0_pay13 lin) 1#32))

/-- The chunk that a trip stores: from the whole block `v0`, the chunk `x` of it and the counter's low words. -/
def chunk (v0 : Vec F S32x100000 .f32) (x : Vec F S32x1024 .f32) (lin : IVec S32x1024 32) : FVec F S32x1024 .f32 :=
  k0_pay53 (k0_pay3 (k0_pay49 v0) x) (bitsA lin) (bitsB lin) 5#32

/-- The rectangle of columns of trip `k`. -/
abbrev rect (k : Fin k0_t1_loop.trips) : Rect S32x100000 := Rect.unit (s := S32x100000) (k0_off1 k) S32x1024.size (k0_off1_inb k)

/-- The rectangle of the last 672 columns. -/
abbrev rectTail : Rect S32x100000 := Rect.unit (s := S32x100000) ![0, 99328] S32x672.size inb_S32x100000_S32x672_0_99328

/-- The columns of trip `k` start at `1024 k`. -/
theorem off_eq (k : Fin k0_t1_loop.trips) : k0_off1 k = ![0, 1024 * k.val] := by
  revert k; decide +kernel

theorem trips_eq : k0_t1_loop.trips = 97 := by decide

/-- What the loop carries before trip `n`: the counters' low words, and the sums of the chunks so far. -/
def carry (v0 : Vec F S32x100000 .f32) (i : grid0.Coords) : ℕ → IVec S32x1024 32 × FVec F S32x1024 .f32
  | 0 => (k0_pay51 i, k0_pay52)
  | n + 1 => if h : n < k0_t1_loop.trips then
      (k0_pay54 (carry v0 i n).1, addf (carry v0 i n).2 (chunk v0 (View.ld v0 (rect ⟨n, h⟩)) (carry v0 i n).1))
    else carry v0 i n

section Trip

variable (𝒱 : Variants) (c : Dev nD) (bd : Option 𝒱.V) (i : grid0.Coords) (arg1 : Memref sig .tc .vmem S32x100000 .f32) (harg1 : arg1.IsWhole) (arg2 : Memref sig .tc .vmem S32x100000 .f32) (harg2 : arg2.IsWhole) (v0 : Vec F S32x100000 .f32) (X_arg1 : BufTy.Contents (Elt F) arg1.view.ty)

/-- A trip yields the counters of the next chunk and the running sums with its chunk added. -/
theorem tripR_eq (k : Fin k0_t1_loop.trips) (acc : IVec S32x1024 32 × FVec F S32x1024 .f32) :
    tripR_k0_t1 𝒱 c bd i arg1 harg1 arg2 harg2 v0 X_arg1 k acc
      = (k0_pay54 acc.1, addf acc.2 (chunk v0 (View.ld (arg1.view.read (Elt F) X_arg1) (rect k)) acc.1)) := by
  unfold tripR_k0_t1 trip_k0_t1
  rfl

/-- A trip stores its chunk at its columns. -/
theorem tripL_eq (k : Fin k0_t1_loop.trips) (acc : IVec S32x1024 32 × FVec F S32x1024 .f32) :
    tripL_k0_t1 𝒱 c bd i arg1 harg1 arg2 harg2 v0 X_arg1 k acc
      = [⟨rect k, chunk v0 (View.ld (arg1.view.read (Elt F) X_arg1) (rect k)) acc.1⟩] := by
  unfold tripL_k0_t1 trip_k0_t1
  rfl

/-- The value the loop carries. -/
theorem st_fst (hX : arg1.view.read (Elt F) X_arg1 = v0) : ∀ n, n ≤ k0_t1_loop.trips →
    (st_k0_t1 𝒱 c bd i arg1 harg1 arg2 harg2 v0 X_arg1 (k0_pay51 i, k0_pay52) n).1 = carry v0 i n
  | 0, _ => rfl
  | n + 1, h => by
    have e := st_k0_t1_succ (F := F) 𝒱 c bd i arg1 harg1 arg2 harg2 v0 X_arg1 (k0_pay51 i, k0_pay52) ⟨n, h⟩
    have e' := st_fst hX n (Nat.le_of_lt h)
    rw [e]
    dsimp only
    rw [tripR_eq, e', hX, carry, dif_pos (show n < k0_t1_loop.trips from h)]

/-- The stores of one more trip. -/
theorem st_snd_succ (hX : arg1.view.read (Elt F) X_arg1 = v0) (n : ℕ) (h : n < k0_t1_loop.trips) :
    (st_k0_t1 𝒱 c bd i arg1 harg1 arg2 harg2 v0 X_arg1 (k0_pay51 i, k0_pay52) (n + 1)).2
      = ⟨rect ⟨n, h⟩, chunk v0 (View.ld v0 (rect ⟨n, h⟩)) (carry v0 i n).1⟩
        :: (st_k0_t1 𝒱 c bd i arg1 harg1 arg2 harg2 v0 X_arg1 (k0_pay51 i, k0_pay52) n).2 := by
  have e := st_k0_t1_succ (F := F) 𝒱 c bd i arg1 harg1 arg2 harg2 v0 X_arg1 (k0_pay51 i, k0_pay52) ⟨n, h⟩
  rw [e]
  dsimp only
  rw [tripL_eq, st_fst 𝒱 c bd i arg1 harg1 arg2 harg2 v0 X_arg1 hX n (Nat.le_of_lt h), hX]
  rfl

/-- Of the block the kernel leaves unscaled, the entry at row `r` and column `1024 q + l`. -/
def entry (v0 : Vec F S32x100000 .f32) (i : grid0.Coords) (q : Fin k0_t1_loop.trips) (r : Fin 32) (l : Fin 1024) : F .f32 :=
  chunk v0 (View.ld v0 (rect q)) (carry v0 i q.val).1 (ix2 r l)

/-- After `n` trips the buffer holds the chunks of those trips. -/
theorem read_chunks (f : BufTy.Contents (Elt F) arg2.view.ty) (hX : arg1.view.read (Elt F) X_arg1 = v0)
    (q : Fin k0_t1_loop.trips) (l : Fin 1024) (y : S32x100000.Idx) (hy : (y 1).val = 1024 * q.val + l.val) :
    ∀ n, n ≤ k0_t1_loop.trips → q.val < n →
      arg2.view.read (Elt F) (arg2.view.writes (Elt F) f
        (st_k0_t1 𝒱 c bd i arg1 harg1 arg2 harg2 v0 X_arg1 (k0_pay51 i, k0_pay52) n).2) y = entry v0 i q (y 0) l
  | n + 1, h, hq => by
    have hl := l.isLt
    rw [st_snd_succ 𝒱 c bd i arg1 harg1 arg2 harg2 v0 X_arg1 hX n h]
    by_cases hqn : q.val = n
    · rw [View.read_writes_cons_unit_of_mem (s := S32x100000) (size := S32x1024.size) _ _ _ _ _ y (ix2 (y 0) l) (off_eq ⟨n, h⟩) (fun a => by
        match a with
        | ⟨0, _⟩ => exact (Nat.zero_add _).symm
        | ⟨1, _⟩ => show (y 1).val = 1024 * n + l.val; omega)]
      subst hqn
      rfl
    · rw [View.read_writes_cons_unit_of_not_mem (s := S32x100000) (size := S32x1024.size) _ _ _ _ _ y (off_eq ⟨n, h⟩) 1 (by
        left; show (y 1).val < 1024 * n; omega)]
      exact read_chunks f hX q l y hy n (Nat.le_of_lt h) (by omega)

end Trip

end Cert.KernelIdeal.Value

end
-- ==== Proof.KBody.lean ====
/-
  The kernel's body as a whole: on a block of the argument it leaves a block that is named here.
-/
module

public import proofs.«01_k».proof.Proof.KTrip
public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first word of the hash before its last injection is done, at the last 672 columns, and the second one after
    four of the five groups of rounds: what the last part of the tail's computation starts from. -/
def tailAB (i : grid0.Coords) : IVec S32x672 32 × IVec S32x672 32 :=
  (k0_pay84 (k0_pay72 (k0_pay58 i) (k0_pay59 i) (k0_pay60 i) k0_pay61) (k0_pay73 (k0_pay58 i) (k0_pay59 i) (k0_pay60 i) k0_pay61) k0_pay74,
   k0_pay85 (k0_pay72 (k0_pay58 i) (k0_pay59 i) (k0_pay60 i) k0_pay61) (k0_pay73 (k0_pay58 i) (k0_pay59 i) (k0_pay60 i) k0_pay61) k0_pay74)

/-- The uniform draws at the last 672 columns, before they are clamped from below. -/
def tailU (i : grid0.Coords) : FVec F S32x672 .f32 :=
  k0_pay98 (k0_pay94 (tailAB i).1 (tailAB i).2) (k0_pay95 (tailAB i).1 (tailAB i).2) (k0_pay96 (tailAB i).1 (tailAB i).2) k0_pay97

/-- The last 672 columns of the unscaled block. -/
def tail (v0 : Vec F S32x100000 .f32) (i : grid0.Coords) : FVec F S32x672 .f32 :=
  k0_pay1 (k0_pay57 v0 (View.ld v0 rectTail)) (tailU i) k0_pay99

/-- The unscaled block: the chunks of the 97 trips side by side, then the last 672 columns. -/
def weighted (v0 : Vec F S32x100000 .f32) (i : grid0.Coords) : Vec F S32x100000 .f32 := fun y =>
  if h : (y 1).val < 99328 then
    entry v0 i ⟨(y 1).val / 1024, by rw [trips_eq]; omega⟩ (y 0) ⟨(y 1).val % 1024, Nat.mod_lt _ (by decide)⟩
  else tail v0 i (ix2 (y 0) ⟨(y 1).val - 99328, by have : (y 1).val < 100000 := (y 1).isLt; omega⟩)

/-- The block the kernel leaves: the unscaled block times the reciprocals of its row sums. -/
def block (v0 : Vec F S32x100000 .f32) (i : grid0.Coords) : Vec F S32x100000 .f32 :=
  k0_pay2 (k0_pay56 (carry v0 i k0_t1_loop.trips).2) (k0_pay57 v0 (View.ld v0 rectTail)) (tailU i) k0_pay99 (weighted v0 i)

theorem hz : (![0, 0] : Fin 2 → Nat) = fun _ => 0 := funext fun a => by fin_cases a <;> rfl

/-- After the loop and the store of the last columns the buffer holds the unscaled block. -/
theorem read_weighted (c : Dev nD) (i : grid0.Coords) (arg1 : Memref sig .tc .vmem S32x100000 .f32) (harg1 : arg1.IsWhole) (arg2 : Memref sig .tc .vmem S32x100000 .f32) (harg2 : arg2.IsWhole)
    (v0 : Vec F S32x100000 .f32) (X : BufTy.Contents (Elt F) arg1.view.ty) (hX : arg1.view.read (Elt F) X = v0) (f : BufTy.Contents (Elt F) arg2.view.ty) :
    arg2.view.read (Elt F) (arg2.view.writes (Elt F) f (⟨rectTail, tail v0 i⟩
        :: (st_k0_t1 Variants.none c none i arg1 harg1 arg2 harg2 v0 X (k0_pay51 i, k0_pay52) k0_t1_loop.trips).2)) = weighted v0 i := by
  funext y
  have hy : (y 1).val < 100000 := (y 1).isLt
  unfold weighted
  by_cases h : (y 1).val < 99328
  · rw [dif_pos h, View.read_writes_cons_unit_of_not_mem (s := S32x100000) (size := S32x672.size) _ _ _ _ _ y rfl 1 (Or.inl h)]
    exact read_chunks Variants.none c none i arg1 harg1 arg2 harg2 v0 X f hX ⟨(y 1).val / 1024, by rw [trips_eq]; omega⟩
      ⟨(y 1).val % 1024, Nat.mod_lt _ (by decide)⟩ y (Nat.div_add_mod _ _).symm _ le_rfl (Fin.isLt _)
  · rw [dif_neg h]
    exact View.read_writes_cons_unit_of_mem (s := S32x100000) (size := S32x672.size) _ _ _ _ _ y _ rfl (fun a => by
      match a with
      | ⟨0, _⟩ => exact (Nat.zero_add _).symm
      | ⟨1, _⟩ => show (y 1).val = 99328 + ((y 1).val - 99328); omega)

set_option maxHeartbeats 1000000 in
/-- The body's triple: on a block `x0` it leaves `block x0 i`, and the argument's buffer as it was. -/
theorem body_run (c : Dev nD) (i : grid0.Coords) (arg1 : Memref sig .tc .vmem S32x100000 .f32) (harg1 : arg1.IsWhole) (arg2 : Memref sig .tc .vmem S32x100000 .f32) (harg2 : arg2.IsWhole)
    (x0 : Vec F S32x100000 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ owns (c : Thread nD τ) arg2 fullShare (block x0 i)) -∗ K ⟨⟩))
          ⊢ wp frame (wpE (defs₀ (F := F)) Variants.none c none) E (cc0__gumbel_softmax_kernel i arg1 harg1 arg2 harg2) K := by
    intro E K
    simp only [cc0__gumbel_softmax_kernel_eq_skeleton]; unfold cc0__gumbel_softmax_kernel_skel
    simp only [k0_part5_eq_skeleton, k0_part6_eq_skeleton, k0_part7_eq_skeleton, k0_part8_eq_skeleton, k0_part9_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; isplitr; swap; · iexact H1
    ipureintro
    sl_unfold_words
    rw [View.read_writes_eq_canon _ _ _ (fun y => ⟨_, List.mem_cons_self, View.mem_set_unit_zero hz inb_S32x100000_S32x100000_0_0 y⟩), View.canon_cons_unit_zero hz]
    simp only [View.readAt_eq_ld, harg1.read_unread, View.ld_unit_zero (S := S32x100000) hz]
    have hw := read_weighted c i arg1 harg1 arg2 harg2 x0 (harg1.unread x0) (harg1.read_unread _) f1
    have hc := st_fst Variants.none c none i arg1 harg1 arg2 harg2 x0 (harg1.unread x0) (harg1.read_unread _) k0_t1_loop.trips le_rfl
    exact congrArg₂ (fun a b => k0_pay2 (k0_pay56 a) (k0_pay57 x0 (View.ld x0 rectTail)) (tailU i) k0_pay99 b) (congrArg Prod.snd hc) hw

end Cert.KernelIdeal.Value

end
-- ==== Proof.Threefry.lean ====
/-
  Threefry-2x32 on single words, and how a tensor program that spells it out operation by operation computes it at an index.
-/
module

public import Idealize.ShloMosaic.PureOps
public import Idealize.ShloMosaic.Lib.IdealHost

@[expose] public section

namespace Cert.Threefry

open Idealize.ShloMosaic

/-- A 32-bit word. -/
abbrev Word := BitVec 32

/-- One round: add, rotate the second word left by `s` (`t` is `32 - s`), xor. -/
def mix (s t : Word) (p : Word × Word) : Word × Word :=
  (p.1 + p.2, (p.1 + p.2) ^^^ ((p.2 <<< s) ||| (p.2 >>> t)))

/-- Adding two words of the key, and the count `j` of the injection. -/
def inject (k k' j : Word) (p : Word × Word) : Word × Word := (p.1 + k, p.2 + k' + j)

/-- The four rounds rotating by 13, 15, 26, 6. -/
def evenRounds (p : Word × Word) : Word × Word := mix 6 26 (mix 26 6 (mix 15 17 (mix 13 19 p)))

/-- The four rounds rotating by 17, 29, 16, 24. -/
def oddRounds (p : Word × Word) : Word × Word := mix 24 8 (mix 16 16 (mix 29 3 (mix 17 15 p)))

/-- The third word of the key. -/
def third (k0 k1 : Word) : Word := k0 ^^^ k1 ^^^ 466688986#32

/-- The twenty rounds with key `k0, k1` on the counter `x0, x1`. -/
def hash (k0 k1 x0 x1 : Word) : Word × Word :=
  inject (third k0 k1) k0 5#32 (evenRounds (inject k1 (third k0 k1) 4#32 (oddRounds (inject k0 k1 3#32 (evenRounds
    (inject (third k0 k1) k0 2#32 (oddRounds (inject k1 (third k0 k1) 1#32 (evenRounds (x0 + k0, x1 + k1))))))))))

section Tensor

variable {S : Shape} {hb : (⟨0, ![]⟩ : Shape).BroadcastsInDim S ![]}

/-- A scalar spread over a shape reads the scalar everywhere. -/
theorem spread_apply {α : Type} {T : Shape} (h : (⟨0, ![]⟩ : Shape).BroadcastsInDim T ![]) (x : (⟨0, ![]⟩ : Shape).Idx → α) (i : T.Idx)
    (z : (⟨0, ![]⟩ : Shape).Idx) : broadcastInDim T ![] h x i = x z :=
  congrArg x (funext fun a => a.elim0)

/-- A shift left by a literal below the width, on the host. -/
theorem shli_lit (x s : Word) (h : s.toNat < 32) : IntOp.shli .host x s = x <<< s := if_pos h
/-- A logical shift right by a literal below the width, on the host. -/
theorem shrui_lit (x s : Word) (h : s.toNat < 32) : IntOp.shrui .host x s = x >>> s := if_pos h

/-- The nine operations of a round compute `mix` at every index. -/
theorem mix_of {a b x c1 l o1 r o2 y : IVec S 32} {k1 k2 : IVec ⟨0, ![]⟩ 32} {s t : Word}
    (hx : x = addi a b) (hk1 : k1 = constantI _ 32 s) (hc1 : c1 = broadcastInDim S ![] hb k1) (hl : l = Host.shli b c1)
    (hk2 : k2 = constantI _ 32 t) (hc2 : o1 = broadcastInDim S ![] hb k2) (hr : r = Host.shrui b o1) (ho : o2 = ori l r)
    (hy : y = xori x o2) (hs : s.toNat < 32) (ht : t.toNat < 32) (i : S.Idx) : (x i, y i) = mix s t (a i, b i) := by
  subst hx hk1 hc1 hl hk2 hc2 hr ho hy
  show (a i + b i, (a i + b i) ^^^ (IntOp.shli .host (b i) s ||| IntOp.shrui .host (b i) t)) = _
  rw [shli_lit _ _ hs, shrui_lit _ _ ht]
  rfl

/-- The seven operations of an injection compute `inject` at every index. -/
theorem inject_of {a b b1 x b2 y1 b3 y : IVec S 32} {k k' c : IVec ⟨0, ![]⟩ 32} {j : Word}
    (h1 : b1 = broadcastInDim S ![] hb k) (hx : x = addi a b1) (h2 : b2 = broadcastInDim S ![] hb k') (hy1 : y1 = addi b b2)
    (hc : c = constantI _ 32 j) (h3 : b3 = broadcastInDim S ![] hb c) (hy : y = addi y1 b3) (z : (⟨0, ![]⟩ : Shape).Idx) (i : S.Idx) :
    (x i, y i) = inject (k z) (k' z) j (a i, b i) := by
  subst h1 hx h2 hy1 hc h3 hy
  show (a i + broadcastInDim S ![] hb k i, b i + broadcastInDim S ![] hb k' i + j) = _
  rw [spread_apply hb k i z, spread_apply hb k' i z]
  rfl

/-- The first two additions of the key. -/
theorem start_of {a b b1 x b2 y : IVec S 32} {k k' : IVec ⟨0, ![]⟩ 32}
    (h1 : b1 = broadcastInDim S ![] hb k) (hx : x = addi a b1) (h2 : b2 = broadcastInDim S ![] hb k') (hy : y = addi b b2)
    (z : (⟨0, ![]⟩ : Shape).Idx) (i : S.Idx) : (x i, y i) = (a i + k z, b i + k' z) := by
  subst h1 hx h2 hy
  show (a i + broadcastInDim S ![] hb k i, b i + broadcastInDim S ![] hb k' i) = _
  rw [spread_apply hb k i z, spread_apply hb k' i z]

/-- The third word of the key, computed on scalars. -/
theorem third_of {k k' v c v' : IVec ⟨0, ![]⟩ 32} (hv : v = xori k k') (hc : c = constantI _ 32 466688986#32) (hv' : v' = xori v c)
    (z : (⟨0, ![]⟩ : Shape).Idx) : v' z = third (k z) (k' z) := by
  subst hv hc hv'; rfl

end Tensor

end Cert.Threefry

end
-- ==== Proof.Draw.lean ====
/- From two random words to a uniform draw. -/
module

public import proofs.«01_k».proof.Proof.Threefry

@[expose] public section

noncomputable section

namespace Cert.Draw

open Idealize.ShloMosaic Cert.Threefry

variable {F : FTy → Type} [FloatOps F]

/-- A number in [0, 1) from a pair of words: their exclusive or's 23 high bits as the fraction of a float in [1, 2), less one. -/
def fraction (p : Word × Word) : F .f32 :=
  FloatOps.subf (FloatOps.ofBits .f32 (((p.1 ^^^ p.2) >>> 9#32) ||| 1065353216#32)) (FloatOps.ofBits .f32 0x3F800000#32)

/-- It scaled to between `t` and `o`, and kept from falling below `t`. -/
def uniformAt (t o : F .f32) (p : Word × Word) : F .f32 :=
  FloatOps.maximumf t (FloatOps.addf (FloatOps.mulf (fraction p) (FloatOps.subf o t)) t)

/-- The smallest normal number, which the draws are kept from falling below; and one. -/
def tiny : F .f32 := FloatOps.ofBits .f32 0x00800000#32
def one : F .f32 := FloatOps.ofBits .f32 0x3F800000#32

/-- The two words of the counter with low word `w` under the seed's key. -/
def words (w : Word) : Word × Word := hash 908003072#32 3252900185#32 0#32 w

/-- The draw of the element numbered `w`. -/
def drawAt (w : Word) : F .f32 := uniformAt tiny one (words w)

end Cert.Draw

end
-- ==== Proof.KHash.lean ====
/-
  The words the kernel hashes. At each element its straight line of integer operations is the twenty rounds on the element's
  number, in the loop's chunks and in the last columns alike: each lemma below is one round, or one round and the injection
  of the key before it, read off the payloads that compute it.
-/
module

public import proofs.«01_k».proof.Proof.KBody
public import proofs.«01_k».proof.Proof.Draw

@[expose] public section

noncomputable section

namespace Cert.KernelIdeal.Value

open Idealize.ShloMosaic Idealize.ShloMosaic.TcCoe Idealize.SL Cert.KernelIdeal Cert.KernelIdeal.Gen Cert.Threefry Cert.Draw

variable {F : FTy → Type} [FloatOps F]

/-- The hash of a number under the seed's key, its rounds written out. -/
theorem words_eq (w : Word) : words w = inject 3962391939#32 908003072#32 5#32 (mix 6#32 26#32 (mix 26#32 6#32 (mix 15#32 17#32 (mix 13#32 19#32
    (inject 3252900185#32 3962391939#32 4#32 (mix 24#32 8#32 (mix 16#32 16#32 (mix 29#32 3#32 (mix 17#32 15#32
    (inject 908003072#32 3252900185#32 3#32 (mix 6#32 26#32 (mix 26#32 6#32 (mix 15#32 17#32 (mix 13#32 19#32
    (inject 3962391939#32 908003072#32 2#32 (mix 24#32 8#32 (mix 16#32 16#32 (mix 29#32 3#32 (mix 17#32 15#32
    (inject 3252900185#32 3962391939#32 1#32 (mix 6#32 26#32 (mix 26#32 6#32 (mix 15#32 17#32 (mix 13#32 19#32
    (0#32 + 908003072#32, w + 3252900185#32))))))))))))))))))))))))) := by
  have h : third 908003072#32 3252900185#32 = 3962391939#32 := by decide
  unfold words Threefry.hash
  rw [h]
  rfl

section Chunk

variable (v a b x y z p q : IVec S32x1024 32) (i : S32x1024.Idx)

theorem c1 : mix 13#32 19#32 (0#32 + 908003072#32, v i + 3252900185#32) = (k0_pay5 v i, k0_pay6 v i) := rfl
theorem c2 : mix 15#32 17#32 (k0_pay5 v i, k0_pay6 v i) = (k0_pay7 v i, k0_pay8 v i) := rfl
theorem c3 : mix 26#32 6#32 (k0_pay7 v i, k0_pay8 v i) = (k0_pay9 v i, k0_pay10 v i) := rfl
theorem c4 : inject 3252900185#32 3962391939#32 1#32 (mix 6#32 26#32 (k0_pay9 v i, k0_pay10 v i))
    = (k0_pay12 v i, k0_pay14 (k0_pay13 v) 1#32 i) := rfl
theorem c5 : mix 17#32 15#32 (a i, k0_pay14 b 1#32 i) = (k0_pay15 a b 1#32 i, k0_pay16 a b 1#32 i) := rfl
theorem c6 : mix 29#32 3#32 (k0_pay15 a b 1#32 i, k0_pay16 a b 1#32 i) = (k0_pay17 a b 1#32 i, k0_pay18 a b 1#32 i) := rfl
theorem c7 : mix 16#32 16#32 (k0_pay17 a b 1#32 i, k0_pay18 a b 1#32 i) = (k0_pay19 a b 1#32 i, k0_pay20 a b 1#32 i) := rfl
theorem c8 : mix 13#32 19#32 (inject 3962391939#32 908003072#32 2#32 (mix 24#32 8#32 (k0_pay19 a b 1#32 i, k0_pay20 a b 1#32 i)))
    = (k0_pay23 a b 1#32 i, k0_pay24 a b 1#32 i) := rfl
theorem c9 : mix 15#32 17#32 (k0_pay23 a b 1#32 i, k0_pay24 a b 1#32 i)
    = (k0_pay25 a b 1#32 i, k0_pay27 (k0_pay24 a b 1#32) (k0_pay25 a b 1#32) (k0_pay26 a b 1#32) i) := rfl
theorem c10 : mix 26#32 6#32 (y i, k0_pay27 x y z i) = (k0_pay28 x y z i, k0_pay29 x y z i) := rfl
theorem c11 : mix 17#32 15#32 (inject 908003072#32 3252900185#32 3#32 (mix 6#32 26#32 (k0_pay28 x y z i, k0_pay29 x y z i)))
    = (k0_pay32 x y z i, k0_pay33 x y z i) := rfl
theorem c12 : mix 29#32 3#32 (k0_pay32 x y z i, k0_pay33 x y z i) = (k0_pay34 x y z i, k0_pay35 x y z i) := rfl
theorem c13 : mix 16#32 16#32 (k0_pay34 x y z i, k0_pay35 x y z i) = (k0_pay36 x y z i, k0_pay37 x y z i) := rfl
theorem c14 : mix 13#32 19#32 (inject 3252900185#32 3962391939#32 4#32 (mix 24#32 8#32 (k0_pay36 x y z i, k0_pay37 x y z i)))
    = (k0_pay40 (k0_pay37 x y z) (k0_pay38 x y z) i, k0_pay41 (k0_pay37 x y z) (k0_pay38 x y z) i) := rfl
theorem c15 : mix 15#32 17#32 (k0_pay40 p q i, k0_pay41 p q i) = (k0_pay42 p q i, k0_pay43 p q i) := rfl
theorem c16 : mix 26#32 6#32 (k0_pay42 p q i, k0_pay43 p q i) = (k0_pay44 p q i, k0_pay45 p q i) := rfl
theorem c17 : inject 3962391939#32 908003072#32 5#32 (mix 6#32 26#32 (k0_pay44 p q i, k0_pay45 p q i))
    = (k0_pay47 p q i, k0_pay48 p q i + 5#32) := rfl

/-- The words of a chunk's element are the hash of its number. -/
theorem chunk_words : words (v i) = (bitsA v i, bitsB v i + 5#32) := by
  rw [words_eq, c1, c2, c3, c4, c5, c6, c7, c8, c9, c10, c11, c12, c13, c14, c15, c16, c17]
  rfl

end Chunk

section Tail

variable (t : grid0.Coords) (x y z w p q a b : IVec S32x672 32) (i : S32x672.Idx)

/-- The number of an element of the last columns. -/
def tailLin (t : grid0.Coords) : IVec S32x672 32 := fun i => k0_pay58 t i - 3252900185#32

theorem t0 : tailLin t i + 3252900185#32 = k0_pay58 t i := BitVec.sub_add_cancel _ _

theorem t1 : mix 13#32 19#32 (0#32 + 908003072#32, k0_pay58 t i)
    = (k0_pay59 t i, k0_pay62 (k0_pay58 t) (k0_pay59 t) (k0_pay60 t) k0_pay61 i) := rfl
theorem t2 : mix 15#32 17#32 (y i, k0_pay62 x y z w i) = (k0_pay63 x y z w i, k0_pay64 x y z w i) := rfl
theorem t3 : mix 26#32 6#32 (k0_pay63 x y z w i, k0_pay64 x y z w i) = (k0_pay65 x y z w i, k0_pay66 x y z w i) := rfl
theorem t4 : mix 17#32 15#32 (inject 3252900185#32 3962391939#32 1#32 (mix 6#32 26#32 (k0_pay65 x y z w i, k0_pay66 x y z w i)))
    = (k0_pay69 x y z w i, k0_pay70 x y z w i) := rfl
theorem t5 : mix 29#32 3#32 (k0_pay69 x y z w i, k0_pay70 x y z w i) = (k0_pay71 x y z w i, k0_pay72 x y z w i) := rfl
theorem t6 : mix 16#32 16#32 (k0_pay71 x y z w i, k0_pay72 x y z w i)
    = (k0_pay73 x y z w i, k0_pay75 (k0_pay72 x y z w) (k0_pay73 x y z w) k0_pay74 i) := rfl
theorem t7 : mix 13#32 19#32 (inject 3962391939#32 908003072#32 2#32 (mix 24#32 8#32 (q i, k0_pay75 p q k0_pay74 i)))
    = (k0_pay78 p q k0_pay74 i, k0_pay79 p q k0_pay74 i) := rfl
theorem t8 : mix 15#32 17#32 (k0_pay78 p q z i, k0_pay79 p q z i) = (k0_pay80 p q z i, k0_pay81 p q z i) := rfl
theorem t9 : mix 26#32 6#32 (k0_pay80 p q z i, k0_pay81 p q z i) = (k0_pay82 p q z i, k0_pay83 p q z i) := rfl
theorem t10 : mix 6#32 26#32 (k0_pay82 p q z i, k0_pay83 p q z i) = (k0_pay84 p q z i, k0_pay85 p q z i) := rfl
theorem t11 : mix 17#32 15#32 (inject 908003072#32 3252900185#32 3#32 (a i, b i)) = (k0_pay87 a b i, k0_pay88 a b i) := rfl
theorem t12 : mix 29#32 3#32 (k0_pay87 a b i, k0_pay88 a b i) = (k0_pay89 a b i, k0_pay90 a b i) := rfl
theorem t13 : mix 16#32 16#32 (k0_pay89 a b i, k0_pay90 a b i) = (k0_pay91 a b i, k0_pay92 a b i) := rfl

/-- What is left of the hash after the fourth injection is computed with the draw, from three vectors. -/
def lastWords (x y z : IVec S32x672 32) (i : S32x672.Idx) : Word × Word :=
  inject 3962391939#32 908003072#32 5#32 (mix 6#32 26#32 (mix 26#32 6#32 (mix 15#32 17#32
    (y i, y i ^^^ (z i ||| (x i >>> 19#32))))))

theorem t14 : inject 3962391939#32 908003072#32 5#32 (mix 6#32 26#32 (mix 26#32 6#32 (mix 15#32 17#32 (mix 13#32 19#32
      (inject 3252900185#32 3962391939#32 4#32 (mix 24#32 8#32 (k0_pay91 a b i, k0_pay92 a b i)))))))
    = lastWords (k0_pay94 a b) (k0_pay95 a b) (k0_pay96 a b) i := rfl

/-- The words of an element of the last columns are the hash of its number. -/
theorem tail_words : words (tailLin t i)
    = lastWords (k0_pay94 (tailAB t).1 (tailAB t).2) (k0_pay95 (tailAB t).1 (tailAB t).2) (k0_pay96 (tailAB t).1 (tailAB t).2) i := by
  unfold tailAB
  rw [words_eq, t0, t1, t2, t3, t4, t5, t6, t7, t8, t9, t10, t11, t12, t13, t14]

end Tail

/-- The weight of an element with draw `u`: the square of the reciprocal of minus its logarithm. -/
def weight (u : F .f32) : F .f32 :=
  FloatOps.mulf (FloatOps.divf one (FloatOps.subf (FloatOps.ofBits .f32 0#32) (FloatOps.log u)))
    (FloatOps.divf one (FloatOps.subf (FloatOps.ofBits .f32 0#32) (FloatOps.log u)))

/-- The draw with its width, one less the least draw, computed by the scalar unit. -/
def drawBy (p : Word × Word) : F .f32 :=
  FloatOps.maximumf tiny (FloatOps.addf (FloatOps.mulf (fraction p) (Scalar.subf one tiny)) tiny)

/-- In exact arithmetic the scalar unit subtracts as the vector unit does. -/
theorem drawBy_eq (p : Word × Word) : drawBy (F := Ideal) p = uniformAt tiny one p := rfl

theorem chunk_by (v0 : Vec F S32x100000 .f32) (x : Vec F S32x1024 .f32) (lin : IVec S32x1024 32) (i : S32x1024.Idx) :
    chunk v0 x lin i = FloatOps.mulf (k0_pay3 (k0_pay49 v0) x i) (weight (drawBy (bitsA lin i, bitsB lin i + 5#32))) := rfl

theorem tail_by (v0 : Vec F S32x100000 .f32) (t : grid0.Coords) (i : S32x672.Idx) :
    tail v0 t i = FloatOps.mulf (k0_pay57 v0 (View.ld v0 rectTail) i) (weight (drawBy
      (lastWords (k0_pay94 (tailAB t).1 (tailAB t).2) (k0_pay95 (tailAB t).1 (tailAB t).2) (k0_pay96 (tailAB t).1 (tailAB t).2) i))) := rfl

/-- A chunk's element: its exponential times the weight of its draw. -/
theorem chunk_apply (v0 : Vec Ideal S32x100000 .f32) (x : Vec Ideal S32x1024 .f32) (lin : IVec S32x1024 32) (i : S32x1024.Idx) :
    chunk v0 x lin i = k0_pay3 (k0_pay49 v0) x i * weight (F := Ideal) (drawAt (lin i)) := by
  rw [chunk_by, ← chunk_words, drawBy_eq]
  rfl

/-- The same of the last columns. -/
theorem tail_apply (v0 : Vec Ideal S32x100000 .f32) (t : grid0.Coords) (i : S32x672.Idx) :
    tail v0 t i = k0_pay57 v0 (View.ld v0 rectTail) i * weight (F := Ideal) (drawAt (tailLin t i)) := by
  rw [tail_by, ← tail_words, drawBy_eq]
  rfl

end Cert.KernelIdeal.Value

end
-- ==== Proof.Rows.lean ====
/-
  Matrices by rows, in exact arithmetic and at any number of rows and columns: the greatest element and the sum of a row, on
  the kernel's side and on the host's, and a column of numbers, one for each row, spread over the rows.
-/
module

public import Idealize.ShloMosaic.Lib.Pointwise
public import Idealize.ShloMosaic.Lib.Pipeline.Value
public import Idealize.ShloMosaic.Lib.ValueIdx

@[expose] public section

noncomputable section

namespace Cert.Rows

open Idealize.ShloMosaic

variable {m n : ℕ}

/-- The kernel's greatest element of row `r`. -/
theorem max_apply (v : FVec Ideal ⟨2, ![m, n]⟩ .f32) (acc : BitVec 32) (h : (⟨2, ![m, n]⟩ : Shape).Reduces [1] ⟨1, ![m]⟩)
    (hφ : FKind.Formats .f32) (hacc : acc = FKind.maximumf.neutral .f32 hφ) (r : Fin m) :
    multiReduction .maximumf [1] ⟨1, ![m]⟩ v acc h hφ hacc (ix1 r)
      = Finset.univ.fold max (Ideal.ofBits .f32 acc) fun k : Fin n => v (ix2 r k) := by
  simp only [pointwise]

/-- The kernel's sum of row `r`. -/
theorem sum_apply (v : FVec Ideal ⟨2, ![m, n]⟩ .f32) (acc : BitVec 32) (h : (⟨2, ![m, n]⟩ : Shape).Reduces [1] ⟨1, ![m]⟩)
    (hφ : FKind.Formats .f32) (hacc : acc = FKind.add.neutral .f32 hφ) (r : Fin m) :
    multiReduction .add [1] ⟨1, ![m]⟩ v acc h hφ hacc (ix1 r) = ∑ k : Fin n, v (ix2 r k) := by
  simp only [pointwise, Ideal.reduceAdd_def]

/-- The host's greatest element of row `r`, from an initial value. -/
theorem hostMax_apply {u : Shape} (v : FVec Ideal ⟨2, ![m, n]⟩ .f32) (c : FVec Ideal u .f32) (h : (⟨2, ![m, n]⟩ : Shape).ReducesTo [1] ⟨1, ![m]⟩)
    (hu : 0 < u.numel) (r : Fin m) :
    Host.reduce FloatOps.maximumf v c h hu (ix1 r)
      = Finset.univ.fold max (c (Shape.Idx.first hu)) fun k : Fin n => v (ix2 r k) := by
  simp only [pointwise]

/-- The host's sum of row `r`, from an initial value. -/
theorem hostSum_apply {u : Shape} (v : FVec Ideal ⟨2, ![m, n]⟩ .f32) (c : FVec Ideal u .f32) (h : (⟨2, ![m, n]⟩ : Shape).ReducesTo [1] ⟨1, ![m]⟩)
    (hu : 0 < u.numel) (r : Fin m) :
    Host.reduceAdd v c h hu (ix1 r) = c (Shape.Idx.first hu) + ∑ k : Fin n, v (ix2 r k) := by
  simp only [pointwise, Ideal.hostReduceAdd_def]

variable {α : Type}

/-- A vector recast as a column. -/
theorem column_apply (x : (⟨1, ![m]⟩ : Shape).Idx → α) (h : (⟨1, ![m]⟩ : Shape).ShapeCasts ⟨2, ![m, 1]⟩) (r : Fin m) (z : Fin 1) :
    shapeCast ⟨2, ![m, 1]⟩ x h (ix2 r z) = x (ix1 r) := by
  refine shapeCast_apply x h _ _ ?_
  rw [Shape.rowMajor_val_one, Shape.rowMajor_val_two]
  obtain rfl : z = 0 := Subsingleton.elim _ _
  show r.val = r.val * 1 + 0
  omega

/-- A column spread over the rows, in the kernel. -/
theorem spread_apply (x : (⟨2, ![m, 1]⟩ : Shape).Idx → α) (h : (⟨2, ![m, 1]⟩ : Shape).Broadcasts ⟨2, ![m, n]⟩) (r : Fin m) (k : Fin n) :
    broadcastTo ⟨2, ![m, n]⟩ x h (ix2 r k) = x (ix2 r 0) := by
  refine broadcastTo_apply x h _ _ fun a => ?_
  match a with
  | ⟨0, _⟩ =>
    show r.val = if m = 1 then 0 else r.val
    split
    · have := r.isLt; omega
    · rfl
  | ⟨1, _⟩ => rfl

/-- A vector as a column, on the host. -/
theorem hostColumn_apply (x : (⟨1, ![m]⟩ : Shape).Idx → α) (h : (⟨1, ![m]⟩ : Shape).BroadcastsInDim ⟨2, ![m, 1]⟩ ![0]) (r : Fin m) (z : Fin 1) :
    broadcastInDim ⟨2, ![m, 1]⟩ ![0] h x (ix2 r z) = x (ix1 r) := by
  refine broadcastInDim_apply _ h x _ _ fun a => ?_
  match a with
  | ⟨0, _⟩ =>
    show r.val = if m = 1 then 0 else r.val
    split
    · have := r.isLt; omega
    · rfl

/-- A column spread over the rows, on the host. -/
theorem hostSpread_apply (x : (⟨2, ![m, 1]⟩ : Shape).Idx → α) (h : (⟨2, ![m, 1]⟩ : Shape).BroadcastsInDim ⟨2, ![m, n]⟩ ![0, 1]) (r : Fin m) (k : Fin n) :
    broadcastInDim ⟨2, ![m, n]⟩ ![0, 1] h x (ix2 r k) = x (ix2 r 0) := by
  refine broadcastInDim_apply _ h x _ _ fun a => ?_
  match a with
  | ⟨0, _⟩ =>
    show r.val = if m = 1 then 0 else r.val
    split
    · have := r.isLt; omega
    · rfl
  | ⟨1, _⟩ => rfl

end Cert.Rows

end
-- ==== Proof.KValue.lean ====
/-
  What the kernel's block holds, in exact arithmetic: every element is its term times the reciprocal of its row's sum of
  terms, an element's term being the exponential of twice itself less the row's shift, times the weight of its draw.
-/
module

public import proofs.«01_k».proof.Proof.KHash
public import proofs.«01_k».proof.Proof.Rows
import Mathlib.Tactic.Ring

@[expose] public section

noncomputable section

namespace Cert.KernelIdeal.Value

open Idealize.ShloMosaic Idealize.ShloMosaic.TcCoe Idealize.SL Cert.KernelIdeal Cert.KernelIdeal.Gen Cert.Threefry Cert.Draw

/-- The number of an element before its column is added: the block `b`'s row `r` is row `32 b + r` of the array. -/
theorem start_apply (t : grid0.Coords) (y : S32x1024.Idx) :
    k0_pay51 t y = BitVec.ofNat 32 (((t 0).val * 32 + (y 0).val) * 100000 + (y 1).val) := by
  have e : k0_pay51 t y = (BitVec.ofNat 32 (t 0).val * 32#32 + BitVec.ofNat 32 (0 * 32 + (y 0).val)) * 100000#32
      + BitVec.ofNat 32 (0 * 1024 + (y 1).val) := rfl
  rw [e, zero_mul, zero_mul, zero_add, zero_add, BitVec.ofNat_add, BitVec.ofNat_mul, BitVec.ofNat_add, BitVec.ofNat_mul]

/-- The numbers that trip `n` hashes. -/
theorem carry_fst (v0 : Vec Ideal S32x100000 .f32) (t : grid0.Coords) (y : S32x1024.Idx) : ∀ n, n ≤ 97 →
    (carry v0 t n).1 y = BitVec.ofNat 32 (((t 0).val * 32 + (y 0).val) * 100000 + (1024 * n + (y 1).val))
  | 0, _ => start_apply t y |>.trans (by rw [mul_zero, zero_add])
  | n + 1, h => by
    have e := carry_fst v0 t y n (by omega)
    rw [carry, dif_pos (show n < k0_t1_loop.trips by rw [trips_eq]; omega)]
    show (carry v0 t n).1 y + 1024#32 = _
    rw [e, show ((t 0).val * 32 + (y 0).val) * 100000 + (1024 * (n + 1) + (y 1).val)
      = (((t 0).val * 32 + (y 0).val) * 100000 + (1024 * n + (y 1).val)) + 1024 by ring, ← BitVec.ofNat_add]

/-- The numbers of the last columns. -/
theorem tailLin_apply (t : grid0.Coords) (y : S32x672.Idx) :
    tailLin t y = BitVec.ofNat 32 (((t 0).val * 32 + (y 0).val) * 100000 + (99328 + (y 1).val)) := by
  have e : tailLin t y = (BitVec.ofNat 32 (t 0).val * 32#32 + BitVec.ofNat 32 (0 * 32 + (0 + (y 0).val))) * 100000#32
      + (BitVec.ofNat 32 (0 * 1024 + (0 + (y 1).val)) + 99328#32) + 3252900185#32 - 3252900185#32 := rfl
  rw [e, BitVec.add_sub_cancel, zero_mul, zero_mul, zero_add, zero_add, zero_add, zero_add, BitVec.ofNat_add, BitVec.ofNat_mul,
    BitVec.ofNat_add, BitVec.ofNat_mul, Nat.add_comm 99328, BitVec.ofNat_add]

/-- The constants two and thirty-four. -/
def two : EReal := Ideal.ofBits .f32 0x40000000#32
def margin : EReal := Ideal.ofBits .f32 0x42080000#32

/-- The greatest element of a row. -/
def greatest (f : Fin 100000 → EReal) : EReal := Finset.univ.fold max (Ideal.ofBits .f32 0xFF800000#32) f

/-- The shift of a row: twice its greatest element, and a margin. -/
def shift (f : Fin 100000 → EReal) : EReal := two * greatest f + margin

/-- The term of an element of the row `f` whose weights are `w`. -/
def term (f w : Fin 100000 → EReal) (k : Fin 100000) : EReal := Ideal.exp (two * f k - shift f) * w k

section Parts

variable {F : FTy → Type} [FloatOps F]

/-- The greatest elements of a block's rows, and the sums of its rows, of a chunk of it and of its last columns. -/
def rowMaxes (v0 : Vec F S32x100000 .f32) : FVec F S32 .f32 :=
  multiReduction .maximumf [1] S32 v0 0xFF800000#32 reduces_S32x100000_S32 (.inl rfl) rfl
def chunkSums (x : FVec F S32x1024 .f32) : FVec F S32 .f32 :=
  multiReduction .add [1] S32 x 0x00000000#32 reduces_S32x1024_S32 (.inl rfl) rfl
def tailSums (x : FVec F S32x672 .f32) : FVec F S32 .f32 :=
  multiReduction .add [1] S32 x 0x00000000#32 reduces_S32x672_S32 (.inl rfl) rfl

theorem shift_parts (v0 : Vec F S32x100000 .f32) :
    k0_pay49 v0 = addf (mulf (broadcast S32x1 (Scalar.ofBits .f32 0x40000000#32)) (shapeCast S32x1 (rowMaxes v0) shapeCasts_S32_S32x1))
      (broadcast S32x1 (Scalar.ofBits .f32 0x42080000#32)) := rfl

theorem block_parts (v0 : Vec F S32x100000 .f32) (t : grid0.Coords) :
    block v0 t = mulf (shapeCast S32x100000 (weighted v0 t) shapeCasts_S32x100000_S32x100000)
      (broadcastTo S32x100000 (divf (broadcast S32x1 one)
        (addf (shapeCast S32x1 (chunkSums (carry v0 t k0_t1_loop.trips).2) shapeCasts_S32_S32x1)
          (shapeCast S32x1 (tailSums (tail v0 t)) shapeCasts_S32_S32x1))) broadcasts_S32x1_S32x100000) := rfl

end Parts

theorem rowMaxes_apply (v0 : Vec Ideal S32x100000 .f32) (r : Fin 32) : rowMaxes v0 (ix1 r) = greatest fun k => v0 (ix2 r k) :=
  Rows.max_apply v0 _ _ _ _ r
theorem chunkSums_apply (x : FVec Ideal S32x1024 .f32) (r : Fin 32) : chunkSums x (ix1 r) = ∑ l : Fin 1024, x (ix2 r l) :=
  Rows.sum_apply x _ _ _ _ r
theorem tailSums_apply (x : FVec Ideal S32x672 .f32) (r : Fin 32) : tailSums x (ix1 r) = ∑ l : Fin 672, x (ix2 r l) :=
  Rows.sum_apply x _ _ _ _ r

theorem shift_apply (v0 : Vec Ideal S32x100000 .f32) (r : Fin 32) (z : Fin 1) :
    k0_pay49 v0 (ix2 r z) = shift fun k => v0 (ix2 r k) := by
  rw [shift_parts, addf_apply, mulf_apply, Rows.column_apply, rowMaxes_apply]
  rfl

/-- The weights of the rows of block `t`. -/
def blockWeight (t : grid0.Coords) (r : Fin 32) (k : Fin 100000) : EReal :=
  weight (F := Ideal) (drawAt (BitVec.ofNat 32 (((t 0).val * 32 + r.val) * 100000 + k.val)))

theorem exp_chunk (v0 : Vec Ideal S32x100000 .f32) (x : Vec Ideal S32x1024 .f32) (r : Fin 32) (l : Fin 1024) :
    k0_pay3 (k0_pay49 v0) x (ix2 r l) = Ideal.exp (two * x (ix2 r l) - shift fun k => v0 (ix2 r k)) := by
  have e : k0_pay3 (k0_pay49 v0) x (ix2 r l)
      = Ideal.exp (two * x (ix2 r l) - broadcastTo S32x1024 (k0_pay49 v0) broadcasts_S32x1_S32x1024 (ix2 r l)) := rfl
  rw [e, Rows.spread_apply, shift_apply]

theorem exp_tail (v0 : Vec Ideal S32x100000 .f32) (x : Vec Ideal S32x672 .f32) (r : Fin 32) (l : Fin 672) :
    k0_pay57 v0 x (ix2 r l) = Ideal.exp (two * x (ix2 r l) - shift fun k => v0 (ix2 r k)) := by
  have e : k0_pay57 v0 x (ix2 r l)
      = Ideal.exp (two * x (ix2 r l) - broadcastTo S32x672 (k0_pay49 v0) broadcasts_S32x1_S32x672 (ix2 r l)) := rfl
  rw [e, Rows.spread_apply, shift_apply]

/-- A chunk reads the block's columns from `1024 q` on. -/
theorem ld_chunk (v0 : Vec Ideal S32x100000 .f32) (q : Fin k0_t1_loop.trips) (r : Fin 32) (l : Fin 1024) (k : Fin 100000) (hk : k.val = 1024 * q.val + l.val) :
    View.ld v0 (rect q) (ix2 r l) = v0 (ix2 r k) := by
  rw [View.ld_unit]
  refine congrArg v0 (funext fun a => Fin.ext ?_)
  have e := congrFun (off_eq q) a
  match a with
  | ⟨0, _⟩ => show k0_off1 q 0 + r.val = r.val; rw [off_eq]; exact Nat.zero_add _
  | ⟨1, _⟩ => show k0_off1 q 1 + l.val = k.val; rw [off_eq, hk]; rfl

theorem ld_tail (v0 : Vec Ideal S32x100000 .f32) (r : Fin 32) (l : Fin 672) (k : Fin 100000) (hk : k.val = 99328 + l.val) :
    View.ld v0 rectTail (ix2 r l) = v0 (ix2 r k) := by
  rw [View.ld_unit]
  refine congrArg v0 (funext fun a => Fin.ext ?_)
  match a with
  | ⟨0, _⟩ => exact Nat.zero_add _
  | ⟨1, _⟩ => exact hk.symm

/-- The term at row `r` and column `k` of block `t`. -/
def blockTerm (v0 : Vec Ideal S32x100000 .f32) (t : grid0.Coords) (r : Fin 32) (k : Fin 100000) : EReal :=
  term (fun k => v0 (ix2 r k)) (blockWeight t r) k

/-- A chunk's elements are its columns' terms. -/
theorem entry_eq (v0 : Vec Ideal S32x100000 .f32) (t : grid0.Coords) (q : Fin k0_t1_loop.trips) (r : Fin 32) (l : Fin 1024) (k : Fin 100000)
    (hk : k.val = 1024 * q.val + l.val) : entry v0 t q r l = blockTerm v0 t r k := by
  have hq : q.val < 97 := lt_of_lt_of_eq q.isLt trips_eq
  unfold entry blockTerm term blockWeight
  rw [chunk_apply, exp_chunk, ld_chunk v0 q r l k hk, carry_fst v0 t (ix2 r l) q.val (le_of_lt hq), hk]
  rfl

/-- So are the last columns' elements. -/
theorem tail_eq (v0 : Vec Ideal S32x100000 .f32) (t : grid0.Coords) (r : Fin 32) (l : Fin 672) (k : Fin 100000)
    (hk : k.val = 99328 + l.val) : tail v0 t (ix2 r l) = blockTerm v0 t r k := by
  unfold blockTerm term blockWeight
  rw [tail_apply, exp_tail, ld_tail v0 r l k hk, tailLin_apply, hk]
  rfl

/-- The unscaled block holds the terms. -/
theorem weighted_eq (v0 : Vec Ideal S32x100000 .f32) (t : grid0.Coords) (r : Fin 32) (k : Fin 100000) :
    weighted v0 t (ix2 r k) = blockTerm v0 t r k := by
  by_cases h : k.val < 99328
  · refine (dif_pos (show ((ix2 r k : S32x100000.Idx) 1).val < 99328 from h)).trans ?_
    exact entry_eq v0 t _ r _ k (Nat.div_add_mod _ _).symm
  · refine (dif_neg (show ¬((ix2 r k : S32x100000.Idx) 1).val < 99328 from h)).trans ?_
    exact tail_eq v0 t r _ k (show k.val = 99328 + (k.val - 99328) by omega)

/-- The terms of a row by the number of the column, zero past the last. -/
def termAt (v0 : Vec Ideal S32x100000 .f32) (t : grid0.Coords) (r : Fin 32) (k : ℕ) : EReal :=
  if h : k < 100000 then blockTerm v0 t r ⟨k, h⟩ else 0

/-- The running sums after `n` trips. -/
theorem carry_snd (v0 : Vec Ideal S32x100000 .f32) (t : grid0.Coords) (r : Fin 32) (l : Fin 1024) : ∀ n, n ≤ 97 →
    (carry v0 t n).2 (ix2 r l) = ∑ q ∈ Finset.range n, termAt v0 t r (1024 * q + l.val)
  | 0, _ => by
    rw [Finset.sum_range_zero]
    exact Ideal.ofBits_zero_f32
  | n + 1, h => by
    have e := carry_snd v0 t r l n (by omega)
    have hl := l.isLt
    have hn : n < k0_t1_loop.trips := by rw [trips_eq]; omega
    have hk : 1024 * n + l.val < 100000 := by omega
    have e' : chunk v0 (View.ld v0 (rect ⟨n, hn⟩)) (carry v0 t n).1 (ix2 r l) = termAt v0 t r (1024 * n + l.val) := by
      unfold termAt
      rw [dif_pos hk]
      exact entry_eq v0 t ⟨n, hn⟩ r l _ rfl
    rw [carry, dif_pos hn, Finset.sum_range_succ, ← e, ← e']
    rfl

/-- A sum over blocks of `b` columns. -/
theorem sum_blocks (g : ℕ → EReal) (b : ℕ) : ∀ n, ∑ q ∈ Finset.range n, ∑ l ∈ Finset.range b, g (b * q + l) = ∑ k ∈ Finset.range (b * n), g k
  | 0 => by simp
  | n + 1 => by rw [Finset.sum_range_succ, sum_blocks g b n, Nat.mul_succ, Finset.sum_range_add]

/-- The sum the kernel divides by is the sum of the row's terms. -/
theorem rowSum_eq (v0 : Vec Ideal S32x100000 .f32) (t : grid0.Coords) (r : Fin 32) :
    (∑ l : Fin 1024, (carry v0 t k0_t1_loop.trips).2 (ix2 r l)) + ∑ l : Fin 672, tail v0 t (ix2 r l)
      = ∑ k : Fin 100000, blockTerm v0 t r k := by
  have h1 : ∀ l : Fin 1024, (carry v0 t k0_t1_loop.trips).2 (ix2 r l) = ∑ q ∈ Finset.range 97, termAt v0 t r (1024 * q + l.val) := fun l => by
    rw [trips_eq]; exact carry_snd v0 t r l 97 le_rfl
  have h2 : ∀ l : Fin 672, tail v0 t (ix2 r l) = termAt v0 t r (99328 + l.val) := fun l => by
    have hl := l.isLt
    have hk : 99328 + l.val < 100000 := by omega
    unfold termAt
    rw [dif_pos hk]
    exact tail_eq v0 t r l _ rfl
  have h3 : ∀ k : Fin 100000, blockTerm v0 t r k = termAt v0 t r k.val := fun k => by
    unfold termAt
    rw [dif_pos k.isLt]
  rw [Finset.sum_congr rfl fun l _ => h1 l, Finset.sum_congr rfl fun l _ => h2 l, Finset.sum_congr rfl fun k _ => h3 k, Finset.sum_comm,
    Finset.sum_congr rfl fun q _ => Fin.sum_univ_eq_sum_range (fun l => termAt v0 t r (1024 * q + l)) 1024, sum_blocks,
    Fin.sum_univ_eq_sum_range (fun l => termAt v0 t r (99328 + l)) 672, Fin.sum_univ_eq_sum_range (termAt v0 t r) 100000]
  exact (Finset.sum_range_add (termAt v0 t r) 99328 672).symm

/-- The kernel's block: every term times the reciprocal of its row's sum of terms. -/
theorem block_apply (v0 : Vec Ideal S32x100000 .f32) (t : grid0.Coords) (r : Fin 32) (k : Fin 100000) :
    block v0 t (ix2 r k) = blockTerm v0 t r k * Ideal.div (one (F := Ideal)) (∑ k : Fin 100000, blockTerm v0 t r k) := by
  rw [block_parts, mulf_apply, Rows.spread_apply, shapeCast_apply _ _ (ix2 r k) (ix2 r k) rfl, weighted_eq, ← rowSum_eq, divf_apply, addf_apply,
    Rows.column_apply, Rows.column_apply, chunkSums_apply, tailSums_apply]
  rfl

end Cert.KernelIdeal.Value

end
-- ==== Proof.KRun.lean ====
/- The kernel's run: every weakly fair execution ends with the argument unchanged, the semaphores at zero, and the result
   array holding, in each group of 32 rows, the body's block of the same rows of the argument. -/
module

public import proofs.«01_k».proof.Proof.KBody
public import Idealize.ShloMosaic.Lib.Pipeline.Value
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline: after the body at a point the argument's buffer holds its block and the result's buffer
    the body's block of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => block (iblk m c 0 t) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_arg (c : Dev nD) (t : Fin cfg0.N) : (dats m 0 c).after 0 t = iblk m c 0 t := by dsimp only [dats]

theorem after_res (c : Dev nD) (t : Fin cfg0.N) : (dats m 0 c).after 1 t = block (iblk m c 0 t) (grid0.coords t) := by dsimp only [dats]

theorem before_arg (c : Dev nD) (t : Fin cfg0.N) (d) : (dats m 0 c).before 0 t d = iblk m c 0 t :=
  before0_0_of m (dats m 0 c) (A_eq m c 0) (after_arg m c) t d

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point meets its proof data. -/
theorem body_at (c : Dev nD) (t : Fin cfg0.N) :
    pre m c t ⊢ wp frame (wpE (defs₀ (F := F)) Variants.none c none) Set.univ (bodyAt0 t) (fun _ => post m c t) := by
  unfold pre post bodyAt0
  simp only [before_arg]
  rw [show (dats m 0 c).Φ t.succ = (dats m 0 c).Φ t.castSucc from rfl,
    show (dats m 0 c).owesAt () t.succ = (dats m 0 c).owesAt () t.castSucc from rfl, after_arg, after_res]
  iintro ⟨HΦ, Ho, ⟨%d0, H0⟩, ⟨%d1, H1⟩⟩
  iapply ((body_run c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The launch: every execution ends in the pipeline's final state, with every semaphore counter at zero. -/
theorem launched : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The argument ends unchanged and the semaphores at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (launched m ρ)))
    ((θ_run defs _ _).mono (fun _ h => h.2) (launched m ρ))

/-- Rows `32 t … 32 t + 31` of an array. -/
def rows (x : Vec F S128x100000 .f32) (t : Fin grid0.N) : Vec F S32x100000 .f32 := fun y =>
  x (ix2 ⟨32 * t.val + (y 0).val, by
    have h : (y 0).val < 32 := (y 0).isLt
    have ht : t.val < 4 := lt_of_lt_of_eq t.isLt N_0
    omega⟩ (y 1))

/-- The group of 32 rows a row lies in. -/
def group (r : Fin 128) : Fin grid0.N := ⟨r.val / 32, by rw [show grid0.N = 4 from N_0]; have := r.isLt; omega⟩

/-- The result array as a function of the argument: at row `r` the row `r % 32` of the block of the group `r / 32`. -/
def result (x : Vec F S128x100000 .f32) : Vec F S128x100000 .f32 := fun y =>
  block (rows x (group (y 0))) (grid0.coords (group (y 0))) (ix2 ⟨(y 0).val % 32, Nat.mod_lt _ (by decide)⟩ (y 1))

theorem index_arg (t : Fin cfg0.N) : win0_0.index t 0 = t.val ∧ win0_0.index t 1 = 0 := by
  rcases fin_N0 t with rfl | rfl | rfl | rfl <;> decide

theorem index_res (t : Fin cfg0.N) : win0_1.index t 0 = t.val ∧ win0_1.index t 1 = 0 := by
  rcases fin_N0 t with rfl | rfl | rfl | rfl <;> decide

/-- The argument's block at a point is its group of rows. -/
theorem iblk_eq (c : Dev nD) (t : Fin cfg0.N) : (iblk m c 0 t : Vec F S32x100000 .f32) = rows (m ((c : Thread nD τ).loc main_arg0)) t := by
  funext y
  unfold iblk rows
  rw [View.read_apply]
  show V m c main_arg0 _ = m (c.tc.loc main_arg0) _
  unfold V
  congr 1
  funext a
  apply Fin.ext
  match a with
  | ⟨0, _⟩ => show win0_0.index t 0 * 32 + 1 * (y 0).val = 32 * t.val + (y 0).val; rw [(index_arg t).1]; omega
  | ⟨1, _⟩ => show win0_0.index t 1 * 100000 + 1 * (y 1).val = (y 1).val; rw [(index_arg t).2]; omega

/-- What is written back at a point is the result array read through the point's block. -/
theorem flushed_eq (c : Dev nD) (t : Fin cfg0.N) (_ : (cfg0.win 1).flush t = true) :
    (dats m 0 c).flushed 1 t = ((cfg0.win 1).blk t).view.read (Elt F) (result (m ((c : Thread nD τ).loc main_arg0))) := by
  show (cfg0.win 1).cut (grid0.coords t) ((dats m 0 c).after 1 t) = _
  rw [after_res, iblk_eq]
  funext y
  rw [View.read_apply]
  have hy : (y 0).val < 32 := (y 0).isLt
  have e0 : ∀ z : S128x100000.Idx, (z 0).val = 32 * t.val + (y 0).val → (z 1).val = (y 1).val →
      block (rows (m ((c : Thread nD τ).loc main_arg0)) t) (grid0.coords t) y = result (m ((c : Thread nD τ).loc main_arg0)) z := by
    intro z h0 h1
    have hg : group (z 0) = t := Fin.ext (by show (z 0).val / 32 = t.val; omega)
    unfold result
    rw [hg]
    congr 1
    funext a
    apply Fin.ext
    match a with
    | ⟨0, _⟩ => show (y 0).val = (z 0).val % 32; omega
    | ⟨1, _⟩ => exact h1.symm
  refine e0 _ ?_ ?_
  · show win0_1.index t 0 * 32 + 1 * (y 0).val = 32 * t.val + (y 0).val; rw [(index_res t).1]; omega
  · show win0_1.index t 1 * 100000 + 1 * (y 1).val = (y 1).val; rw [(index_res t).2]; omega

/-- So the result array ends at `result` of the argument. -/
theorem final (c : Dev nD) : (dats m 0 c).arrAt 1 cfg0.N = result (m ((c : Thread nD τ).loc main_arg0)) :=
  (dats m 0 c).arrAt_eq_of_cover 1 (result (m ((c : Thread nD τ).loc main_arg0))) (flushed_eq m c) fun i =>
    ⟨group (i 0), flush0_1 _, by
      show i ∈ ((View.whole main_v0).slice (win0_1.rect (group (i 0)))).set
      rw [View.set_slice_whole, Rect.mem_set_unit]
      intro a
      have h0 : (i 0 : Nat) < 128 := (i 0).isLt
      have h1 : (i 1 : Nat) < 100000 := (i 1).isLt
      have hg : (group (i 0)).val = (i 0 : Nat) / 32 := rfl
      match a with
      | ⟨0, _⟩ =>
        show win0_1.index (group (i 0)) 0 * 32 ≤ (i 0 : Nat) ∧ (i 0 : Nat) < win0_1.index (group (i 0)) 0 * 32 + 32
        rw [(index_res _).1, hg]; omega
      | ⟨1, _⟩ =>
        show win0_1.index (group (i 0)) 1 * 100000 ≤ (i 1 : Nat) ∧ (i 1 : Nat) < win0_1.index (group (i 0)) 1 * 100000 + 100000
        rw [(index_res _).2]; omega⟩

/-- The run, read: the result array at `result` of the argument, the argument unchanged. -/
theorem run : θ_run defs (onTc (τ := τ) (main (F := F))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨((h.1 c).1 1).trans (final m c), ((h.1 c).1 0).trans ((dats m 0 c).arrAt_in 0 rfl _)⟩)
    (launched m ρ)

end Cert.KernelIdeal.Value

end
-- ==== Proof.Softmax.lean ====
/-
  The equation, on one row. The row's elements are extended reals whose greatest is real, and each has a real noise `g`.
  Scaling the exponentials of the doubled elements by the exponentials of the doubled noise and then normalizing gives the
  softmax of the doubled sums, whatever real number each side subtracts before it takes exponentials.
-/
module

public import Idealize.ShloMosaic.PureOps.Ideal
public import Mathlib.Data.Finset.Fold
import Mathlib.Tactic.Ring
import Mathlib.Tactic.FieldSimp
import Mathlib.Tactic.Linarith
import Mathlib.Tactic.Positivity

@[expose] public section

noncomputable section

namespace Cert.Softmax

open Idealize.ShloMosaic

variable {n : ℕ}

/-- The greatest of finitely many extended reals, `⊥` where there are none. -/
def greatest (f : Fin n → EReal) : EReal := Finset.univ.fold max ⊥ f

theorem le_greatest (f : Fin n → EReal) (k : Fin n) : f k ≤ greatest f :=
  Finset.le_fold_max _ |>.mpr (Or.inr ⟨k, Finset.mem_univ k, le_rfl⟩)

/-- An extended real that is neither infinity is a real number. -/
theorem real_of (x : EReal) (h : x ≠ ⊥) (h' : x ≠ ⊤) : ∃ r : ℝ, x = r := ⟨x.toReal, (EReal.coe_toReal h' h).symm⟩

/-- The exponential of twice an element that is not `⊤`, as a real number. -/
def twiceExp (x : EReal) : ℝ := if x = ⊥ then 0 else Real.exp (2 * x.toReal)

theorem twiceExp_nonneg (x : EReal) : 0 ≤ twiceExp x := by
  unfold twiceExp
  split
  · exact le_rfl
  · exact (Real.exp_pos _).le

theorem twiceExp_pos {x : EReal} (h : x ≠ ⊥) : 0 < twiceExp x := by
  unfold twiceExp
  rw [if_neg h]
  exact Real.exp_pos _

/-- The exponential of twice an element less a real number. -/
theorem exp_sub (x : EReal) (h : x ≠ ⊤) (c : ℝ) : Ideal.exp (((2 : ℝ) : EReal) * x - c) = ((twiceExp x * Real.exp (-c) : ℝ) : EReal) := by
  unfold twiceExp
  by_cases hb : x = ⊥
  · subst hb
    rw [EReal.coe_mul_bot_of_pos (by norm_num), if_pos rfl, zero_mul, sub_eq_add_neg, EReal.bot_add]
    rfl
  · obtain ⟨r, rfl⟩ := real_of x hb h
    rw [if_neg hb, ← EReal.coe_mul, ← EReal.coe_sub, EReal.toReal_coe, ← Real.exp_add, ← sub_eq_add_neg]
    rfl

/-- The doubled sum of an element and its noise. -/
def doubled (x : EReal) (g : ℝ) : EReal := Ideal.div (x + g) ((1 / 2 : ℝ) : EReal)

theorem doubled_bot (g : ℝ) : doubled ⊥ g = ⊥ := by
  unfold doubled Ideal.div
  rw [if_neg (by norm_num), EReal.bot_add, ← EReal.coe_inv, EReal.bot_mul_coe_of_pos (by norm_num)]

theorem doubled_coe (r g : ℝ) : doubled r g = ((2 * r + 2 * g : ℝ) : EReal) := by
  unfold doubled Ideal.div
  rw [if_neg (by norm_num), ← EReal.coe_inv, ← EReal.coe_add, ← EReal.coe_mul]
  congr 1
  ring

/-- Its exponential less a real number. -/
theorem exp_doubled_sub (x : EReal) (h : x ≠ ⊤) (g c : ℝ) :
    Ideal.exp (doubled x g - c) = ((twiceExp x * Real.exp (2 * g) * Real.exp (-c) : ℝ) : EReal) := by
  unfold twiceExp
  by_cases hb : x = ⊥
  · subst hb
    rw [doubled_bot, if_pos rfl, zero_mul, zero_mul, sub_eq_add_neg, EReal.bot_add]
    rfl
  · obtain ⟨r, rfl⟩ := real_of x hb h
    rw [doubled_coe, if_neg hb, ← EReal.coe_sub, EReal.toReal_coe, ← Real.exp_add, ← Real.exp_add, ← sub_eq_add_neg]
    rfl

/-- A sum of reals is a real. -/
theorem sum_coe (a : Fin n → ℝ) : ∑ k, ((a k : ℝ) : EReal) = ((∑ k, a k : ℝ) : EReal) :=
  (map_sum (⟨⟨(fun r : ℝ => (r : EReal)), rfl⟩, fun x y => EReal.coe_add x y⟩ : ℝ →+ EReal) a Finset.univ).symm

theorem div_coe (x y : ℝ) (h : y ≠ 0) : Ideal.div x y = ((x / y : ℝ) : EReal) := by
  unfold Ideal.div
  rw [if_neg (by simpa using h), ← EReal.coe_inv, ← EReal.coe_mul]
  rfl

/-- A row whose greatest element is real has a positive sum of weighted exponentials. -/
theorem sum_pos (f : Fin n → EReal) (g : Fin n → ℝ) (hb : ⊥ < greatest f) : 0 < ∑ k, twiceExp (f k) * Real.exp (2 * g k) := by
  obtain h | ⟨k, -, hk⟩ := Finset.lt_fold_max _ |>.mp hb
  · exact absurd h (lt_irrefl _)
  · exact Finset.sum_pos' (fun j _ => mul_nonneg (twiceExp_nonneg _) (Real.exp_pos _).le)
      ⟨k, Finset.mem_univ k, mul_pos (twiceExp_pos hk.ne') (Real.exp_pos _)⟩

/-- The greatest doubled sum of such a row is real. -/
theorem greatest_doubled (f : Fin n → EReal) (g : Fin n → ℝ) (hb : ⊥ < greatest f) (ht : greatest f < ⊤) :
    ∃ z : ℝ, greatest (fun k => doubled (f k) (g k)) = z := by
  have hf : ∀ k, f k ≠ ⊤ := fun k => ((le_greatest f k).trans_lt ht).ne
  refine real_of _ (bot_lt_iff_ne_bot.mp ?_) (lt_top_iff_ne_top.mp ?_)
  · obtain h | ⟨k, -, hk⟩ := Finset.lt_fold_max _ |>.mp hb
    · exact absurd h (lt_irrefl _)
    · refine lt_of_lt_of_le ?_ (le_greatest (fun k => doubled (f k) (g k)) k)
      obtain ⟨r, hr⟩ := real_of (f k) hk.ne' (hf k)
      rw [hr, doubled_coe]
      exact EReal.bot_lt_coe _
  · refine (Finset.fold_max_lt _).mpr ⟨bot_lt_top, fun k _ => ?_⟩
    by_cases h : f k = ⊥
    · rw [h, doubled_bot]
      exact bot_lt_top
    · obtain ⟨r, hr⟩ := real_of (f k) h (hf k)
      rw [hr, doubled_coe]
      exact EReal.coe_lt_top _

/-- Weighted exponentials times the reciprocal of their sum: a quotient of real numbers. -/
theorem weighted_eq (f : Fin n → EReal) (g : Fin n → ℝ) (c : ℝ) (hb : ⊥ < greatest f) (ht : greatest f < ⊤) (k : Fin n) :
    Ideal.exp (((2 : ℝ) : EReal) * f k - c) * ((Real.exp (2 * g k) : ℝ) : EReal)
        * Ideal.div 1 (∑ j, Ideal.exp (((2 : ℝ) : EReal) * f j - c) * ((Real.exp (2 * g j) : ℝ) : EReal))
      = ((twiceExp (f k) * Real.exp (2 * g k) / ∑ j, twiceExp (f j) * Real.exp (2 * g j) : ℝ) : EReal) := by
  have hf : ∀ k, f k ≠ ⊤ := fun k => ((le_greatest f k).trans_lt ht).ne
  have e : ∀ j, Ideal.exp (((2 : ℝ) : EReal) * f j - c) * ((Real.exp (2 * g j) : ℝ) : EReal)
      = ((twiceExp (f j) * Real.exp (2 * g j) * Real.exp (-c) : ℝ) : EReal) := fun j => by
    rw [exp_sub (f j) (hf j) c, ← EReal.coe_mul]
    congr 1
    ring
  have hS := sum_pos f g hb
  have hc := Real.exp_pos (-c)
  rw [Finset.sum_congr rfl fun j _ => e j, e k, sum_coe, ← Finset.sum_mul, ← EReal.coe_one, div_coe _ _ (mul_pos hS hc).ne', ← EReal.coe_mul]
  congr 1
  field_simp

/-- The softmax of the doubled sums: the same quotient. -/
theorem softmax_eq (f : Fin n → EReal) (g : Fin n → ℝ) (c : ℝ) (hb : ⊥ < greatest f) (ht : greatest f < ⊤) (k : Fin n) :
    Ideal.div (Ideal.exp (doubled (f k) (g k) - c)) (0 + ∑ j, Ideal.exp (doubled (f j) (g j) - c))
      = ((twiceExp (f k) * Real.exp (2 * g k) / ∑ j, twiceExp (f j) * Real.exp (2 * g j) : ℝ) : EReal) := by
  have hf : ∀ k, f k ≠ ⊤ := fun k => ((le_greatest f k).trans_lt ht).ne
  have hS := sum_pos f g hb
  have hc := Real.exp_pos (-c)
  rw [zero_add, Finset.sum_congr rfl fun j _ => exp_doubled_sub (f j) (hf j) (g j) c, exp_doubled_sub (f k) (hf k) (g k) c, sum_coe,
    ← Finset.sum_mul, div_coe _ _ (mul_pos hS hc).ne']
  congr 1
  field_simp

end Cert.Softmax

end
-- ==== Proof.DrawReal.lean ====
/-
  A draw, in exact arithmetic, is a real number strictly between zero and one, so that minus its logarithm is a positive
  real: the kernel's weight is the square of its reciprocal, and the reference's noise is minus its logarithm.
-/
module

public import proofs.«01_k».proof.Proof.Draw
public import Idealize.ShloMosaic.Lib.IdealHost
public import Idealize.ShloMosaic.PureOps.Ideal.Laws
import Mathlib.Tactic.Ring
import Mathlib.Tactic.NormNum
import Mathlib.Tactic.Linarith
import Mathlib.Tactic.Positivity
import Mathlib.Tactic.IntervalCases

@[expose] public section

noncomputable section

namespace Cert.Draw

open Idealize.ShloMosaic Cert.Threefry

/-- The word whose 23 low bits are the draw's fraction and whose other bits are those of one. -/
def fracWord (x : Word) : Word := (x >>> 9#32) ||| 1065353216#32

/-- Its sign bit is clear, -/
theorem sign_fracWord (x : Word) : (fracWord x).extractLsb' 31 1 = 0#1 := by
  unfold fracWord
  refine BitVec.eq_of_getLsbD_eq fun i hi => ?_
  interval_cases i
  simp [BitVec.getLsbD_extractLsb']

/-- and its exponent is one's. -/
theorem expo_fracWord (x : Word) : (fracWord x).extractLsb' 23 8 = 127#8 := by
  unfold fracWord
  refine BitVec.eq_of_getLsbD_eq fun i hi => ?_
  interval_cases i <;> simp [BitVec.getLsbD_extractLsb']

/-- So it is the number `1 + N / 2²³` with `N` its low bits. -/
theorem ofBits_fracWord (x : Word) :
    Ideal.ofBits .f32 (fracWord x) = ((1 + ((fracWord x).extractLsb' 0 23).toNat / 2 ^ 23 : ℝ) : EReal) := by
  have h1 := sign_fracWord x
  have h2 := expo_fracWord x
  show Ideal.ieee 8 23 (fracWord x) = _
  unfold Ideal.ieee
  simp only [show 8 + 23 = 31 from rfl, h1, h2]
  rw [if_neg (by decide), if_neg (by decide)]
  congr 1
  norm_num
  ring

/-- The least draw is a power of two. -/
theorem tiny_eq : tiny (F := Ideal) = (((2 : ℝ) ^ (-126 : ℤ) : ℝ) : EReal) := by
  show Ideal.ofBits .f32 0x00800000#32 = _
  simp [Ideal.ofBits, Ideal.ieee, -EReal.coe_mul]
  norm_num

theorem one_eq : one (F := Ideal) = 1 := Ideal.ofBits_one_f32

/-- The fraction of a pair of words is a real in [0, 1). -/
theorem fraction_real (p : Word × Word) : ∃ r : ℝ, 0 ≤ r ∧ r < 1 ∧ fraction (F := Ideal) p = r := by
  have hN : ((fracWord (p.1 ^^^ p.2)).extractLsb' 0 23).toNat < 2 ^ 23 := BitVec.isLt _
  refine ⟨(((fracWord (p.1 ^^^ p.2)).extractLsb' 0 23).toNat : ℝ) / 2 ^ 23, by positivity, ?_, ?_⟩
  · rw [div_lt_one (by positivity)]
    exact_mod_cast hN
  · show Ideal.ofBits .f32 (fracWord (p.1 ^^^ p.2)) - one (F := Ideal) = _
    rw [ofBits_fracWord, one_eq, ← EReal.coe_one, ← EReal.coe_sub]
    congr 1
    ring

/-- A draw is a real strictly between zero and one. -/
theorem draw_real (w : Word) : ∃ u : ℝ, 0 < u ∧ u < 1 ∧ drawAt (F := Ideal) w = u := by
  obtain ⟨r, h0, h1, hr⟩ := fraction_real (words w)
  have ht : (0 : ℝ) < (2 : ℝ) ^ (-126 : ℤ) := by positivity
  have ht1 : (2 : ℝ) ^ (-126 : ℤ) < 1 := by norm_num
  refine ⟨max ((2 : ℝ) ^ (-126 : ℤ)) (r * (1 - (2 : ℝ) ^ (-126 : ℤ)) + (2 : ℝ) ^ (-126 : ℤ)), lt_max_of_lt_left ht, max_lt ht1 ?_, ?_⟩
  · nlinarith
  · show max (tiny (F := Ideal)) (fraction (F := Ideal) (words w) * (one (F := Ideal) - tiny (F := Ideal)) + tiny (F := Ideal)) = _
    rw [hr, tiny_eq, one_eq, ← EReal.coe_one, ← EReal.coe_sub, ← EReal.coe_mul, ← EReal.coe_add]
    exact (EReal.coe_strictMono.monotone.map_max).symm

/-- The noise of an element, a real number. -/
def noise (w : Word) : ℝ := -Real.log (-Real.log (drawAt (F := Ideal) w).toReal)

theorem log_coe {r : ℝ} (h : 0 < r) : Ideal.log r = ((Real.log r : ℝ) : EReal) := if_neg (not_le.mpr h)

/-- The reference computes the noise. -/
theorem noise_eq (w : Word) : -Ideal.log (-Ideal.log (drawAt (F := Ideal) w)) = ((noise w : ℝ) : EReal) := by
  obtain ⟨u, h0, h1, hu⟩ := draw_real w
  have hl : 0 < -Real.log u := neg_pos.mpr (Real.log_neg h0 h1)
  unfold noise
  rw [hu, log_coe h0, ← EReal.coe_neg, log_coe hl, ← EReal.coe_neg, EReal.toReal_coe]

/-- The kernel's weight is the exponential of twice the noise. -/
theorem weight_eq (w : Word) : Ideal.div 1 (0 - Ideal.log (drawAt (F := Ideal) w)) * Ideal.div 1 (0 - Ideal.log (drawAt (F := Ideal) w))
    = ((Real.exp (2 * noise w) : ℝ) : EReal) := by
  obtain ⟨u, h0, h1, hu⟩ := draw_real w
  have hl : 0 < -Real.log u := neg_pos.mpr (Real.log_neg h0 h1)
  have hd : Ideal.div 1 (((-Real.log u : ℝ)) : EReal) = (((-Real.log u)⁻¹ : ℝ) : EReal) := by
    unfold Ideal.div
    rw [if_neg (by exact_mod_cast hl.ne'), ← EReal.coe_inv, one_mul]
  unfold noise
  rw [hu, log_coe h0, zero_sub, ← EReal.coe_neg, hd, ← EReal.coe_mul, EReal.toReal_coe, two_mul, Real.exp_add, Real.exp_neg, Real.exp_log hl]

end Cert.Draw

end
-- ==== Proof.KEq.lean ====
/-
  The kernel's result at a row and a column of the whole array, where the greatest element of the row is real: the element's
  weighted exponential over the row's sum of them, a quotient of real numbers.
-/
module

public import proofs.«01_k».proof.Proof.KValue
public import proofs.«01_k».proof.Proof.KRun
public import proofs.«01_k».proof.Proof.Softmax
public import proofs.«01_k».proof.Proof.DrawReal
import Mathlib.Tactic.NormNum

@[expose] public section

noncomputable section

namespace Cert.KernelIdeal.Value

open Idealize.ShloMosaic Idealize.ShloMosaic.TcCoe Idealize.SL Cert.KernelIdeal Cert.KernelIdeal.Gen Cert.Threefry Cert.Draw

theorem two_eq : two = ((2 : ℝ) : EReal) := by
  unfold two
  simp [Ideal.ofBits, Ideal.ieee, -EReal.coe_mul]
  norm_num

theorem margin_eq : margin = ((34 : ℝ) : EReal) := by
  unfold margin
  simp [Ideal.ofBits, Ideal.ieee, -EReal.coe_mul]
  norm_num

theorem greatest_eq (f : Fin 100000 → EReal) : greatest f = Softmax.greatest f := by
  unfold greatest Softmax.greatest
  rw [show Ideal.ofBits .f32 0xFF800000#32 = ⊥ by simp [Ideal.ofBits, Ideal.ieee]]

/-- A weight is the exponential of twice the noise. -/
theorem weight_draw (w : Word) : weight (F := Ideal) (drawAt w) = ((Real.exp (2 * noise w) : ℝ) : EReal) := by
  unfold weight
  show Ideal.div (one (F := Ideal)) (Ideal.ofBits .f32 0#32 - Ideal.log (drawAt (F := Ideal) w))
    * Ideal.div (one (F := Ideal)) (Ideal.ofBits .f32 0#32 - Ideal.log (drawAt (F := Ideal) w)) = _
  rw [one_eq, show Ideal.ofBits .f32 0#32 = 0 from Ideal.ofBits_zero_f32, weight_eq]

/-- The number of the element at row `r` and column `k` of the array. -/
def number (r : Fin 128) (k : Fin 100000) : Word := BitVec.ofNat 32 (r.val * 100000 + k.val)

theorem coords_eq (t : Fin grid0.N) : (grid0.coords t 0).val = t.val := by
  rcases fin_N0 t with rfl | rfl | rfl | rfl <;> decide

/-- The weights of a row of the array. -/
theorem blockWeight_eq (r : Fin 128) (k : Fin 100000) :
    blockWeight (grid0.coords (group r)) ⟨r.val % 32, Nat.mod_lt _ (by decide)⟩ k = ((Real.exp (2 * noise (number r k)) : ℝ) : EReal) := by
  unfold blockWeight
  rw [weight_draw, coords_eq]
  unfold number
  rw [show (group r).val * 32 + r.val % 32 = r.val by show r.val / 32 * 32 + r.val % 32 = r.val; omega]

/-- The rows of the blocks are the rows of the array. -/
theorem rows_eq (x : Vec Ideal S128x100000 .f32) (r : Fin 128) (k : Fin 100000) :
    rows x (group r) (ix2 ⟨r.val % 32, Nat.mod_lt _ (by decide)⟩ k) = x (ix2 r k) := by
  refine congrArg x (funext fun a => Fin.ext ?_)
  match a with
  | ⟨0, _⟩ => show 32 * (r.val / 32) + r.val % 32 = r.val; omega
  | ⟨1, _⟩ => rfl

/-- The term of an element of the array. -/
theorem blockTerm_eq (x : Vec Ideal S128x100000 .f32) (r : Fin 128) (k : Fin 100000) :
    blockTerm (rows x (group r)) (grid0.coords (group r)) ⟨r.val % 32, Nat.mod_lt _ (by decide)⟩ k
      = Ideal.exp (((2 : ℝ) : EReal) * x (ix2 r k) - shift fun j => x (ix2 r j)) * ((Real.exp (2 * noise (number r k)) : ℝ) : EReal) := by
  unfold blockTerm term
  rw [blockWeight_eq, funext fun j => rows_eq x r j, two_eq]

/-- The kernel's result on a row whose greatest element is real. -/
theorem result_apply (x : Vec Ideal S128x100000 .f32) (r : Fin 128) (k : Fin 100000)
    (hb : ⊥ < Softmax.greatest fun j => x (ix2 r j)) (ht : (Softmax.greatest fun j => x (ix2 r j)) < ⊤) :
    result x (ix2 r k) = ((Softmax.twiceExp (x (ix2 r k)) * Real.exp (2 * noise (number r k))
      / ∑ j, Softmax.twiceExp (x (ix2 r j)) * Real.exp (2 * noise (number r j)) : ℝ) : EReal) := by
  obtain ⟨M, hM⟩ := Softmax.real_of _ hb.ne' ht.ne
  have hs : (shift fun j => x (ix2 r j)) = ((2 * M + 34 : ℝ) : EReal) := by
    unfold shift
    rw [greatest_eq, hM, two_eq, margin_eq, ← EReal.coe_mul, ← EReal.coe_add]
  have e : result x (ix2 r k) = blockTerm (rows x (group r)) (grid0.coords (group r)) ⟨r.val % 32, Nat.mod_lt _ (by decide)⟩ k
      * Ideal.div (one (F := Ideal)) (∑ j : Fin 100000, blockTerm (rows x (group r)) (grid0.coords (group r)) ⟨r.val % 32, Nat.mod_lt _ (by decide)⟩ j) :=
    block_apply _ _ _ k
  rw [e, Finset.sum_congr rfl fun j _ => blockTerm_eq x r j, blockTerm_eq x r k, hs, one_eq]
  exact Softmax.weighted_eq (fun j => x (ix2 r j)) (fun j => noise (number r j)) _ hb ht k

end Cert.KernelIdeal.Value

end
-- ==== Proof.Pre.lean ====
/-
  The precondition read: where the printed test of it is all ones, the greatest element of every row is a real number.
-/
module

public import proofs.«01_k».proof.Pre_row_max_finite
public import proofs.«01_k».proof.Proof.Rows
public import proofs.«01_k».proof.Proof.Softmax

@[expose] public section

noncomputable section

namespace Cert.Pre_row_max_finite

open Idealize.ShloMosaic

/-- The shape relations the test states. -/
theorem facts : Facts where
  reducesTo_S128x100000_S128_d1 := by decide
  h_S_ := by decide
  bcast_S_S128 := by decide
  reducesTo_S128_S_d0 := by decide

/-- A conjunction of bits that is one has every bit one. -/
theorem all_of_fold {ι : Type} (f : ι → BitVec 1) (s : Finset ι) : s.fold IntOp.andi 1#1 f = 1#1 → ∀ k ∈ s, f k = 1#1 := by
  classical
  induction s using Finset.induction_on with
  | empty => exact fun _ k hk => absurd hk (Finset.notMem_empty k)
  | insert a s ha ih =>
    rw [Finset.fold_insert ha]
    intro h k hk
    have h2 : ∀ p q : BitVec 1, IntOp.andi p q = 1#1 → p = 1#1 ∧ q = 1#1 := by decide
    obtain ⟨ha1, hs1⟩ := h2 _ _ h
    rcases Finset.mem_insert.mp hk with rfl | hk
    · exact ha1
    · exact ih hs1 k hk

/-- The host's conjunction of a vector of bits. -/
theorem conj_apply {n : ℕ} {u : Shape} (x : IVec ⟨1, ![n]⟩ 1) (c : IVec u 1) (h : (⟨1, ![n]⟩ : Shape).ReducesTo [0] ⟨0, ![]⟩) (hu : 0 < u.numel)
    (j : (⟨0, ![]⟩ : Shape).Idx) :
    Host.reduce IntOp.andi x c h hu j = Finset.univ.fold IntOp.andi (c (Shape.Idx.first hu)) fun k : Fin n => x (ix1 k) := by
  simp only [pointwise]

theorem bit_of (p : Prop) [Decidable p] (h : BitVec.ofBool (decide p) = 1#1) : p := by
  by_contra hp
  rw [decide_eq_false hp] at h
  exact absurd h (by decide)

/-- A comparison that is one, read as the order. -/
theorem above_of {s : Shape} (v : FVec Ideal s .f32) (w : BitVec 32) (h : (⟨0, ![]⟩ : Shape).BroadcastsInDim s ![]) (i : s.Idx)
    (e : cmpf .ogt v (broadcastInDim s ![] h (constant ⟨0, ![]⟩ .f32 w)) i = 1#1) : Ideal.ofBits .f32 w < v i := bit_of _ e
theorem below_of {s : Shape} (v : FVec Ideal s .f32) (w : BitVec 32) (h : (⟨0, ![]⟩ : Shape).BroadcastsInDim s ![]) (i : s.Idx)
    (e : cmpf .olt v (broadcastInDim s ![] h (constant ⟨0, ![]⟩ .f32 w)) i = 1#1) : v i < Ideal.ofBits .f32 w := bit_of _ e

theorem bot_eq : Ideal.ofBits .f32 0xFF800000#32 = ⊥ := by simp [Ideal.ofBits, Ideal.ieee]
theorem top_eq : Ideal.ofBits .f32 0x7F800000#32 = ⊤ := by simp [Ideal.ofBits, Ideal.ieee]

variable [Facts]
open Facts

/-- The greatest elements of the rows. -/
def rowMaxes (x : FVec Ideal S128x100000 .f32) : FVec Ideal S128 .f32 :=
  Host.reduce FloatOps.maximumf x (constant S_ .f32 0xFF800000#32) reducesTo_S128x100000_S128_d1 h_S_

theorem rowMaxes_apply (x : FVec Ideal S128x100000 .f32) (r : Fin 128) : rowMaxes x (ix1 r) = Softmax.greatest fun k => x (ix2 r k) := by
  unfold rowMaxes
  rw [Rows.hostMax_apply]
  exact congrArg (fun b => Finset.univ.fold max b fun k => x (ix2 r k)) bot_eq

/-- Where the test is all ones, every row's greatest element is above `⊥` and below `⊤`. -/
theorem greatest_real (x : FVec Ideal S128x100000 .f32) (h : fn x = fun _ => 1#1) (r : Fin 128) :
    (⊥ < Softmax.greatest fun k => x (ix2 r k)) ∧ (Softmax.greatest fun k => x (ix2 r k)) < ⊤ := by
  have e : fn x = Host.reduce IntOp.andi (andi (cmpf .ogt (rowMaxes x) (broadcastInDim S128 ![] bcast_S_S128 (constant S_ .f32 0xFF800000#32)))
      (cmpf .olt (rowMaxes x) (broadcastInDim S128 ![] bcast_S_S128 (constant S_ .f32 0x7F800000#32)))) (constantI S_ 1 1#1) reducesTo_S128_S_d0 h_S_ := rfl
  have h0 := congrFun (e.symm.trans h) fun a => a.elim0
  rw [conj_apply] at h0
  have h1 := all_of_fold _ _ h0 r (Finset.mem_univ r)
  have h2 : ∀ p q : BitVec 1, IntOp.andi p q = 1#1 → p = 1#1 ∧ q = 1#1 := by decide
  obtain ⟨hl, hr⟩ := h2 _ _ h1
  rw [← rowMaxes_apply, ← bot_eq, ← top_eq]
  exact ⟨above_of _ _ _ _ hl, below_of _ _ _ _ hr⟩

end Cert.Pre_row_max_finite

end
-- ==== Proof.Line.lean ====
/-
  A line of host operations read as a system of equations.

  The buffers of a printed reference are numbered in the order in which its operations write them, and every operation
  reads buffers of smaller numbers only. So the memory that the whole line leaves satisfies the equation of each of its
  operations: the result buffer holds the operation's function of what the operand buffers hold at the END. `Does p lo hi E`
  says that the program `p` is such a line over the numbers `lo ≤ … < hi` and that every memory satisfying its operations'
  equations satisfies `E`. It is built operation by operation, through calls of module-local functions, and `Does.run`
  turns it into a statement about every execution.
-/
module

public import Idealize.ShloMosaic.Lib.StableHlo.Run
public import Idealize.ShloMosaic.Lib.Quiescent

@[expose] public section

noncomputable section

namespace Cert.Line

open Idealize.ShloMosaic Idealize.ShloMosaic.StableHlo Idealize.SL.Sem

variable {nD : Nat} {τ : Topo} {sig : RefSig} {Val : EltTy → Type} {Λ : Labels}

/-- The number of a buffer. -/
abbrev pos (r : Ref sig .tc) : Nat := r.idx.val

/-- `op` writes exactly `y`, determines what it writes, reads only buffers numbered below `y`, and computes the same
    again when run twice. -/
structure Sets (op : HloOp τ sig Val) (y : Ref sig .tc) : Prop where
  writes : op.writes = {Proc.devRef (τ := τ) .tc y}
  fresh : op.fresh = ∅
  bufs : ∀ b ∈ op.bufs, ∃ r : Ref sig .tc, b = Proc.devRef .tc r ∧ (r = y ∨ pos r < pos y)
  again : ∀ V, op.result (op.result V) (Proc.devRef .tc y) = op.result V (Proc.devRef .tc y)

/-- The memory `W` satisfies the equation of `op`. -/
def Stable (W : Valuation τ sig Val) (op : HloOp τ sig Val) : Prop := op.result W = W

/-- A memory that agrees, up to the number of `op`'s result, with what `op` left satisfies `op`'s equation. -/
theorem Sets.stable {op : HloOp τ sig Val} {y : Ref sig .tc} (h : Sets op y) {V W : Valuation τ sig Val}
    (hW : ∀ r : Ref sig .tc, pos r ≤ pos y → W (Proc.devRef .tc r) = op.result V (Proc.devRef .tc r)) : Stable W op := by
  unfold Stable
  funext b
  by_cases hb : b ∈ op.writes
  · obtain rfl : b = Proc.devRef .tc y := by rw [h.writes] at hb; exact Finset.mem_singleton.mp hb
    rw [op.result_congr (F := W) (G := op.result V) (fun b' hb' => ?_) _ (op.writes_sub hb), h.again, hW y le_rfl]
    obtain ⟨r, rfl, hr⟩ := h.bufs b' hb'
    exact hW r (hr.elim (fun e => e ▸ le_rfl) le_of_lt)
  · exact op.result_of_not_mem W hb

/-- `op` leaves every buffer numbered otherwise than its result. -/
theorem Sets.other {op : HloOp τ sig Val} {y : Ref sig .tc} (h : Sets op y) (V : Valuation τ sig Val) {r : Ref sig .tc}
    (hr : pos r ≠ pos y) : op.result V (Proc.devRef .tc r) = V (Proc.devRef .tc r) :=
  op.result_of_not_mem V (by
    rw [h.writes, Finset.mem_singleton]
    exact devRef_ne_of_ne fun e => hr (e ▸ rfl))

/-- The operations set buffers of increasing numbers, from `lo` on and below `hi`. -/
def Ordered (hi : Nat) : Nat → List (HloOp τ sig Val) → Prop
  | lo, [] => lo ≤ hi
  | lo, op :: ops => ∃ y : Ref sig .tc, Sets op y ∧ lo ≤ pos y ∧ Ordered hi (pos y + 1) ops

theorem Ordered.mono {hi lo lo' : Nat} (hl : lo' ≤ lo) : ∀ {ops : List (HloOp τ sig Val)}, Ordered hi lo ops → Ordered hi lo' ops
  | [], h => hl.trans h
  | _ :: _, ⟨y, hs, hy, h⟩ => ⟨y, hs, hl.trans hy, h⟩

theorem Ordered.append {a b c : Nat} {l' : List (HloOp τ sig Val)} (h' : Ordered c b l') :
    ∀ {a : Nat} {l : List (HloOp τ sig Val)}, Ordered b a l → Ordered c a (l ++ l')
  | _, [], h => h'.mono h
  | _, _ :: _, ⟨y, hs, hy, h⟩ => ⟨y, hs, hy, Ordered.append (a := a) h' h⟩

/-- Buffers numbered below the line keep their contents. -/
theorem Ordered.after_low {hi : Nat} {r : Ref sig .tc} : ∀ {ops : List (HloOp τ sig Val)} {lo : Nat} (V : Valuation τ sig Val),
    Ordered hi lo ops → pos r < lo → after ops V (Proc.devRef .tc r) = V (Proc.devRef .tc r)
  | [], _, _, _, _ => rfl
  | _ :: _, _, V, ⟨y, hs, hy, h⟩, hr => by
    rw [after_cons, h.after_low _ (by omega), hs.other V (by omega)]

/-- What the line leaves satisfies the equation of every operation of it. -/
theorem Ordered.stable {hi : Nat} : ∀ {ops : List (HloOp τ sig Val)} {lo : Nat} (V : Valuation τ sig Val),
    Ordered hi lo ops → ∀ op ∈ ops, Stable (after ops V) op
  | _ :: _, _, V, ⟨y, hs, hy, h⟩, op, hop => by
    rcases List.mem_cons.mp hop with rfl | hop
    · exact hs.stable fun r hr => by rw [after_cons, h.after_low _ (by omega)]
    · rw [after_cons]; exact h.stable _ op hop

theorem Ordered.bufs {hi : Nat} : ∀ {ops : List (HloOp τ sig Val)} {lo : Nat},
    Ordered hi lo ops → ∀ op ∈ ops, op.bufs ⊆ tcRefs τ sig ∧ op.fresh = ∅
  | _ :: _, _, ⟨y, hs, hy, h⟩, op, hop => by
    rcases List.mem_cons.mp hop with rfl | hop
    · refine ⟨fun b hb => ?_, hs.fresh⟩
      obtain ⟨r, rfl, -⟩ := hs.bufs b hb
      exact devRef_mem_tcRefs r
    · exact h.bufs op hop

/-- `p` is a line of operations over the buffer numbers from `lo` on and below `hi`, and a memory that satisfies all their
    equations satisfies `E`. -/
def Does (p : Prog (TpuEff nD τ sig Val Λ .tc) PUnit) (lo hi : Nat) (E : Valuation τ sig Val → Prop) : Prop :=
  ∃ ops : List (HloOp τ sig Val), p = seq ops ∧ Ordered hi lo ops ∧ ∀ W, (∀ op ∈ ops, Stable W op) → E W

theorem Does.nil {n : Nat} : Does (nD := nD) (Λ := Λ) (pure ⟨⟩) n n (fun _ : Valuation τ sig Val => True) :=
  ⟨[], rfl, le_rfl, fun _ _ => trivial⟩

theorem Does.then {p q : Prog (TpuEff nD τ sig Val Λ .tc) PUnit} {a b c : Nat} {E E' : Valuation τ sig Val → Prop}
    (hp : Does p a b E) (hq : Does q b c E') : Does (p >>= fun _ => q) a c (fun W => E W ∧ E' W) := by
  obtain ⟨l, rfl, hl, hE⟩ := hp
  obtain ⟨l', rfl, hl', hE'⟩ := hq
  exact ⟨l ++ l', (seq_append l l').symm, hl'.append (a := a) hl, fun W h =>
    ⟨hE W fun op ho => h op (List.mem_append_left _ ho), hE' W fun op ho => h op (List.mem_append_right _ ho)⟩⟩

theorem Does.imp {p : Prog (TpuEff nD τ sig Val Λ .tc) PUnit} {a b : Nat} {E E' : Valuation τ sig Val → Prop}
    (hp : Does p a b E) (h : ∀ W, E W → E' W) : Does p a b E' := by
  obtain ⟨l, e, hl, hE⟩ := hp
  exact ⟨l, e, hl, fun W hW => h W (hE W hW)⟩

/-- One operation that sets `y`. -/
theorem Does.one {op : HloOp τ sig Val} {y : Ref sig .tc} (h : Sets op y) {E : Valuation τ sig Val → Prop}
    (hE : ∀ W, Stable W op → E W) {n : Nat} (hn : n = pos y) :
    Does (nD := nD) (Λ := Λ) (hlo rfl op (fun _ => .ret ⟨⟩)) n (n + 1) E := by
  subst hn
  exact ⟨[op], rfl, ⟨y, h, le_rfl, le_rfl⟩, fun W hW => hE W (hW op List.mem_cons_self)⟩

/-! ### What each kind of operation does -/

/-- The value held by the buffer of a typed reference. -/
def rd (W : Valuation τ sig Val) {T : BufTy} (t : TRef sig T) : T.Contents Val := t.ofBuf (W (Proc.devRef .tc t.ref))

theorem sets_nullary {y : Ref sig .tc} (v : y.ty.Contents Val) (hy) : Sets (τ := τ) (nullary y v hy) y where
  writes := rfl
  fresh := rfl
  bufs b hb := ⟨y, by simpa only [nullary_bufs, Finset.mem_singleton] using hb, Or.inl rfl⟩
  again V := by rw [nullary_result, nullary_result]

theorem sets_unary {x y : Ref sig .tc} (f : x.ty.Contents Val → y.ty.Contents Val) (hx hy) (h : pos x < pos y) :
    Sets (τ := τ) (unary x y f hx hy) y where
  writes := rfl
  fresh := rfl
  bufs b hb := by
    simp only [unary_bufs, Finset.mem_insert, Finset.mem_singleton] at hb
    rcases hb with rfl | rfl
    · exact ⟨x, rfl, Or.inr h⟩
    · exact ⟨y, rfl, Or.inl rfl⟩
  again V := by
    rw [unary_result, unary_result, unary_result_ne (h := fun e => absurd h (by rw [e]; exact lt_irrefl _))]

theorem sets_binary {a b y : Ref sig .tc} (f : a.ty.Contents Val → b.ty.Contents Val → y.ty.Contents Val) (ha hb hy)
    (h : pos a < pos y) (h' : pos b < pos y) : Sets (τ := τ) (binary a b y f ha hb hy) y where
  writes := rfl
  fresh := rfl
  bufs c hc := by
    simp only [binary_bufs, Finset.mem_insert, Finset.mem_singleton] at hc
    rcases hc with rfl | rfl | rfl
    · exact ⟨a, rfl, Or.inr h⟩
    · exact ⟨b, rfl, Or.inr h'⟩
    · exact ⟨y, rfl, Or.inl rfl⟩
  again V := by
    rw [binary_result, binary_result, binary_result_ne (h := fun e => absurd h (by rw [e]; exact lt_irrefl _)),
      binary_result_ne (h := fun e => absurd h' (by rw [e]; exact lt_irrefl _))]

theorem sets_reshape {x y : Ref sig .tc} (he hn hx hy) (h : pos x < pos y) :
    Sets (τ := τ) (Val := Val) (reshape x y he hn hx hy) y where
  writes := rfl
  fresh := rfl
  bufs b hb := by
    simp only [reshape_bufs, Finset.mem_insert, Finset.mem_singleton] at hb
    rcases hb with rfl | rfl
    · exact ⟨x, rfl, Or.inr h⟩
    · exact ⟨y, rfl, Or.inl rfl⟩
  again V := by
    rw [reshape_result, reshape_result, reshape_result_ne (h := fun e => absurd h (by rw [e]; exact lt_irrefl _))]

section Typed

variable {Ta Tb Ty : BufTy}

/-- A constant: its buffer holds it. -/
theorem Does.const {y : TRef sig Ty} {v : Ty.Contents Val} {n : Nat} (hn : n = pos y.ref) :
    Does (nD := nD) (Λ := Λ) (τ := τ) (hlo rfl (TRef.nullary y v) (fun _ => .ret ⟨⟩)) n (n + 1) (fun W => rd W y = v) :=
  Does.one (sets_nullary _ _) (fun W h => by
    unfold rd; rw [← h, nullary_result, TRef.ofBuf_toBuf]) hn

/-- A function of one buffer. -/
theorem Does.map {a : TRef sig Ta} {y : TRef sig Ty} {f : Ta.Contents Val → Ty.Contents Val} {n : Nat}
    (hn : n = pos y.ref) (ha : pos a.ref < pos y.ref) :
    Does (nD := nD) (Λ := Λ) (τ := τ) (hlo rfl (TRef.unary a y f) (fun _ => .ret ⟨⟩)) n (n + 1) (fun W => rd W y = f (rd W a)) :=
  Does.one (sets_unary _ _ _ ha) (fun W h => by
    have e := congrFun h (Proc.devRef .tc y.ref)
    rw [unary_result] at e
    unfold rd; rw [← e, TRef.ofBuf_toBuf]) hn

/-- A function of two buffers. -/
theorem Does.map₂ {a : TRef sig Ta} {b : TRef sig Tb} {y : TRef sig Ty} {f : Ta.Contents Val → Tb.Contents Val → Ty.Contents Val}
    {n : Nat} (hn : n = pos y.ref) (ha : pos a.ref < pos y.ref) (hb : pos b.ref < pos y.ref) :
    Does (nD := nD) (Λ := Λ) (τ := τ) (hlo rfl (TRef.binary a b y f) (fun _ => .ret ⟨⟩)) n (n + 1)
      (fun W => rd W y = f (rd W a) (rd W b)) :=
  Does.one (sets_binary _ _ _ _ ha hb) (fun W h => by
    have e := congrFun h (Proc.devRef .tc y.ref)
    rw [binary_result] at e
    unfold rd; rw [← e, TRef.ofBuf_toBuf]) hn

/-- A reshape. -/
theorem Does.reshape {a : TRef sig Ta} {y : TRef sig Ty} {he : Ta.elt = Ty.elt} {hs : Ta.shape.ShapeCasts Ty.shape} {n : Nat}
    (hn : n = pos y.ref) (ha : pos a.ref < pos y.ref) :
    Does (nD := nD) (Λ := Λ) (τ := τ) (Val := Val) (hlo rfl (TRef.reshape a y he hs) (fun _ => .ret ⟨⟩)) n (n + 1)
      (fun W => rd W y = fun i => he ▸ shapeCast Ty.shape (rd W a) hs i) := by
  obtain ⟨a, rfl, _, _⟩ := a
  obtain ⟨y, rfl, _, _⟩ := y
  exact Does.one (sets_reshape _ _ _ _ ha) (fun W h => by
    have e := congrFun h (Proc.devRef .tc y)
    rw [reshape_result] at e
    exact e.symm) hn

end Typed

section Plain

/-- `Does.const` over a bare reference. -/
theorem Does.const' {y : Ref sig .tc} {v : y.ty.Contents Val} {hy} {n : Nat} (hn : n = pos y) :
    Does (nD := nD) (Λ := Λ) (τ := τ) (hlo rfl (nullary y v hy) (fun _ => .ret ⟨⟩)) n (n + 1)
      (fun W => W (Proc.devRef .tc y) = v) :=
  Does.one (sets_nullary _ _) (fun W h => by rw [← h, nullary_result]) hn

/-- `Does.map` over bare references. -/
theorem Does.map' {a y : Ref sig .tc} {f : a.ty.Contents Val → y.ty.Contents Val} {ha' hy} {n : Nat}
    (hn : n = pos y) (ha : pos a < pos y) :
    Does (nD := nD) (Λ := Λ) (τ := τ) (hlo rfl (unary a y f ha' hy) (fun _ => .ret ⟨⟩)) n (n + 1)
      (fun W => W (Proc.devRef .tc y) = f (W (Proc.devRef .tc a))) :=
  Does.one (sets_unary _ _ _ ha) (fun W h => by
    have e := congrFun h (Proc.devRef .tc y)
    rw [unary_result] at e
    exact e.symm) hn

/-- `Does.map₂` over bare references. -/
theorem Does.map₂' {a b y : Ref sig .tc} {f : a.ty.Contents Val → b.ty.Contents Val → y.ty.Contents Val} {ha' hb' hy} {n : Nat}
    (hn : n = pos y) (ha : pos a < pos y) (hb : pos b < pos y) :
    Does (nD := nD) (Λ := Λ) (τ := τ) (hlo rfl (binary a b y f ha' hb' hy) (fun _ => .ret ⟨⟩)) n (n + 1)
      (fun W => W (Proc.devRef .tc y) = f (W (Proc.devRef .tc a)) (W (Proc.devRef .tc b))) :=
  Does.one (sets_binary _ _ _ _ ha hb) (fun W h => by
    have e := congrFun h (Proc.devRef .tc y)
    rw [binary_result] at e
    exact e.symm) hn

end Plain

/-- Every execution of a line terminates, in a memory satisfying its equations in which the buffers numbered below the
    line are as they were. -/
theorem Does.run {defs : Defs nD τ sig Val Λ} {main : Dev nD → Prog (TpuEff nD τ sig Val Λ .tc) PUnit} {lo hi : Nat}
    {E : Valuation τ sig Val → Prop} (h : ∀ d, Does (main d) lo hi E)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val, E W
      ∧ (∀ b : Ref sig .tc, r.2.mem ((d.tc : Thread nD τ).loc b) = W (Proc.devRef .tc b))
      ∧ ∀ b : Ref sig .tc, pos b < lo → r.2.mem ((d.tc : Thread nD τ).loc b) = m ((d.tc : Thread nD τ).loc b) := by
  choose ops e ho hE using h
  refine (θ_run defs _ _).mono (fun r hr d => ?_) (run_seq hR hC defs main ops e
    (fun d => List.forall_iff_forall_mem.mpr fun op hop => ((ho d).bufs op hop).1) m ρ
    (fun d op hop => ((ho d).bufs op hop).2))
  exact ⟨after (ops d) (launchContents m d), hE d _ ((ho d).stable _), fun b => hr d b,
    fun b hb => (hr d b).trans ((ho d).after_low _ hb)⟩

end Cert.Line

end
-- ==== Proof.RefHash.lean ====
/-
  The two calls of the hash in the reference: the one that folds the seed into the key, on one word, and the one that draws
  the bits, on the whole array. Each is read as the system of equations of its operations, and those are twenty rounds.
-/
module

public import proofs.«01_k».proof.ReferenceIdeal
public import proofs.«01_k».proof.Proof.Line
public import proofs.«01_k».proof.Proof.Threefry

@[expose] public section

noncomputable section

namespace Cert.ReferenceIdeal.Value

open Idealize.ShloMosaic Idealize.ShloMosaic.StableHlo Cert.Line Cert.Threefry Cert.ReferenceIdeal

variable {F : FTy → Type} [FloatOps F] [Facts]

set_option maxHeartbeats 4000000

/-- What one call of it leaves in its two result buffers, as words at an index. -/
theorem fold_hash :
    Does (nD := nD) (fn_threefry2x32.body (F := F) main_call0.v6 main_call0.v8 main_call0.v9 main_call0.v10 main_call0_call0) 25 247 fun W => ∀ z i,
      (rd W main_call0_call0.v171 i, rd W main_call0_call0.v175 i)
        = hash (rd W main_call0.v6 z) (rd W main_call0.v8 z) (rd W main_call0.v9 i) (rd W main_call0.v10 i) := by
  unfold fn_threefry2x32.body fn_threefry2x32.body_part0 fn_threefry2x32.body_part1 fn_threefry2x32.body_part2
    fn_threefry2x32.body_part3
  refine Does.imp (by
    repeat (first
      | exact Does.nil
      | exact Does.const rfl
      | exact Does.map rfl (by decide)
      | exact Does.map₂ rfl (by decide) (by decide)
      | apply Does.then)) ?_
  rintro W ⟨
    ⟨h1, h2, h3, h4, h5, h6, h7, h8, h9, h10, h11, h12, h13, h14, h15, h16, h17, h18, h19, h20, h21, h22, h23, h24,
    h25, h26, h27, h28, h29, h30, h31, h32, h33, h34, h35, h36, h37, h38, h39, h40, h41, h42, h43, h44, h45, h46, h47,
    h48, h49, h50, h51, h52, h53, h54, h55, h56, h57, h58, h59, h60⟩, ⟨h61, h62, h63, h64, h65, h66, h67, h68, h69,
    h70, h71, h72, h73, h74, h75, h76, h77, h78, h79, h80, h81, h82, h83, h84, h85, h86, h87, h88, h89, h90, h91, h92,
    h93, h94, h95, h96, h97, h98, h99, h100, h101, h102, h103, h104, h105, h106, h107, h108, h109, h110, h111, h112,
    h113, h114, h115, h116, h117, h118, h119, h120⟩, ⟨h121, h122, h123, h124, h125, h126, h127, h128, h129, h130, h131,
    h132, h133, h134, h135, h136, h137, h138, h139, h140, h141, h142, h143, h144, h145, h146, h147, h148, h149, h150,
    h151, h152, h153, h154, h155, h156, h157, h158, h159, h160, h161, h162, h163, h164, h165, h166, h167, h168, h169,
    h170, h171, h172, h173, h174, h175, h176, h177, h178, h179, h180⟩, ⟨h181, h182, h183, h184, h185, h186, h187, h188,
    h189, h190, h191, h192, h193, h194, h195, h196, h197, h198, h199, h200, h201, h202, h203, h204, h205, h206, h207,
    h208, h209, h210, h211, h212, h213, h214, h215, h216, h217, h218, h219, h220, h221, h222⟩⟩ z i
  have hs := start_of h4 h5 h6 h7 z i
  have r0 := mix_of h8 h9 h10 h11 h12 h13 h14 h15 h16 (by decide) (by decide) i
  have r1 := mix_of h17 h18 h19 h20 h21 h22 h23 h24 h25 (by decide) (by decide) i
  have r2 := mix_of h26 h27 h28 h29 h30 h31 h32 h33 h34 (by decide) (by decide) i
  have r3 := mix_of h35 h36 h37 h38 h39 h40 h41 h42 h43 (by decide) (by decide) i
  have j0 := inject_of h44 h45 h46 h47 h48 h49 h50 z i
  have r4 := mix_of h51 h52 h53 h54 h55 h56 h57 h58 h59 (by decide) (by decide) i
  have r5 := mix_of h60 h61 h62 h63 h64 h65 h66 h67 h68 (by decide) (by decide) i
  have r6 := mix_of h69 h70 h71 h72 h73 h74 h75 h76 h77 (by decide) (by decide) i
  have r7 := mix_of h78 h79 h80 h81 h82 h83 h84 h85 h86 (by decide) (by decide) i
  have j1 := inject_of h87 h88 h89 h90 h91 h92 h93 z i
  have r8 := mix_of h94 h95 h96 h97 h98 h99 h100 h101 h102 (by decide) (by decide) i
  have r9 := mix_of h103 h104 h105 h106 h107 h108 h109 h110 h111 (by decide) (by decide) i
  have r10 := mix_of h112 h113 h114 h115 h116 h117 h118 h119 h120 (by decide) (by decide) i
  have r11 := mix_of h121 h122 h123 h124 h125 h126 h127 h128 h129 (by decide) (by decide) i
  have j2 := inject_of h130 h131 h132 h133 h134 h135 h136 z i
  have r12 := mix_of h137 h138 h139 h140 h141 h142 h143 h144 h145 (by decide) (by decide) i
  have r13 := mix_of h146 h147 h148 h149 h150 h151 h152 h153 h154 (by decide) (by decide) i
  have r14 := mix_of h155 h156 h157 h158 h159 h160 h161 h162 h163 (by decide) (by decide) i
  have r15 := mix_of h164 h165 h166 h167 h168 h169 h170 h171 h172 (by decide) (by decide) i
  have j3 := inject_of h173 h174 h175 h176 h177 h178 h179 z i
  have r16 := mix_of h180 h181 h182 h183 h184 h185 h186 h187 h188 (by decide) (by decide) i
  have r17 := mix_of h189 h190 h191 h192 h193 h194 h195 h196 h197 (by decide) (by decide) i
  have r18 := mix_of h198 h199 h200 h201 h202 h203 h204 h205 h206 (by decide) (by decide) i
  have r19 := mix_of h207 h208 h209 h210 h211 h212 h213 h214 h215 (by decide) (by decide) i
  have j4 := inject_of h216 h217 h218 h219 h220 h221 h222 z i
  have ht := third_of h1 h2 h3 z
  rw [j4, r19, r18, r17, r16, j3, r15, r14, r13, r12, j2, r11, r10, r9, r8, j1, r7, r6, r5, r4, j0, r3, r2, r1, r0, hs, ht]
  rfl

/-- What one call of it leaves in its two result buffers, as words at an index. -/
theorem draw_hash :
    Does (nD := nD) (fn_threefry2x32_0.body (F := F) main_call1.v4 main_call1.v6 main_call1.v17 main_call1.v16 main_call1_call0) 271 493 fun W => ∀ z i,
      (rd W main_call1_call0.v171 i, rd W main_call1_call0.v175 i)
        = hash (rd W main_call1.v4 z) (rd W main_call1.v6 z) (rd W main_call1.v17 i) (rd W main_call1.v16 i) := by
  unfold fn_threefry2x32_0.body fn_threefry2x32_0.body_part0 fn_threefry2x32_0.body_part1 fn_threefry2x32_0.body_part2
    fn_threefry2x32_0.body_part3
  refine Does.imp (by
    repeat (first
      | exact Does.nil
      | exact Does.const rfl
      | exact Does.map rfl (by decide)
      | exact Does.map₂ rfl (by decide) (by decide)
      | apply Does.then)) ?_
  rintro W ⟨
    ⟨h1, h2, h3, h4, h5, h6, h7, h8, h9, h10, h11, h12, h13, h14, h15, h16, h17, h18, h19, h20, h21, h22, h23, h24,
    h25, h26, h27, h28, h29, h30, h31, h32, h33, h34, h35, h36, h37, h38, h39, h40, h41, h42, h43, h44, h45, h46, h47,
    h48, h49, h50, h51, h52, h53, h54, h55, h56, h57, h58, h59, h60⟩, ⟨h61, h62, h63, h64, h65, h66, h67, h68, h69,
    h70, h71, h72, h73, h74, h75, h76, h77, h78, h79, h80, h81, h82, h83, h84, h85, h86, h87, h88, h89, h90, h91, h92,
    h93, h94, h95, h96, h97, h98, h99, h100, h101, h102, h103, h104, h105, h106, h107, h108, h109, h110, h111, h112,
    h113, h114, h115, h116, h117, h118, h119, h120⟩, ⟨h121, h122, h123, h124, h125, h126, h127, h128, h129, h130, h131,
    h132, h133, h134, h135, h136, h137, h138, h139, h140, h141, h142, h143, h144, h145, h146, h147, h148, h149, h150,
    h151, h152, h153, h154, h155, h156, h157, h158, h159, h160, h161, h162, h163, h164, h165, h166, h167, h168, h169,
    h170, h171, h172, h173, h174, h175, h176, h177, h178, h179, h180⟩, ⟨h181, h182, h183, h184, h185, h186, h187, h188,
    h189, h190, h191, h192, h193, h194, h195, h196, h197, h198, h199, h200, h201, h202, h203, h204, h205, h206, h207,
    h208, h209, h210, h211, h212, h213, h214, h215, h216, h217, h218, h219, h220, h221, h222⟩⟩ z i
  have hs := start_of h4 h5 h6 h7 z i
  have r0 := mix_of h8 h9 h10 h11 h12 h13 h14 h15 h16 (by decide) (by decide) i
  have r1 := mix_of h17 h18 h19 h20 h21 h22 h23 h24 h25 (by decide) (by decide) i
  have r2 := mix_of h26 h27 h28 h29 h30 h31 h32 h33 h34 (by decide) (by decide) i
  have r3 := mix_of h35 h36 h37 h38 h39 h40 h41 h42 h43 (by decide) (by decide) i
  have j0 := inject_of h44 h45 h46 h47 h48 h49 h50 z i
  have r4 := mix_of h51 h52 h53 h54 h55 h56 h57 h58 h59 (by decide) (by decide) i
  have r5 := mix_of h60 h61 h62 h63 h64 h65 h66 h67 h68 (by decide) (by decide) i
  have r6 := mix_of h69 h70 h71 h72 h73 h74 h75 h76 h77 (by decide) (by decide) i
  have r7 := mix_of h78 h79 h80 h81 h82 h83 h84 h85 h86 (by decide) (by decide) i
  have j1 := inject_of h87 h88 h89 h90 h91 h92 h93 z i
  have r8 := mix_of h94 h95 h96 h97 h98 h99 h100 h101 h102 (by decide) (by decide) i
  have r9 := mix_of h103 h104 h105 h106 h107 h108 h109 h110 h111 (by decide) (by decide) i
  have r10 := mix_of h112 h113 h114 h115 h116 h117 h118 h119 h120 (by decide) (by decide) i
  have r11 := mix_of h121 h122 h123 h124 h125 h126 h127 h128 h129 (by decide) (by decide) i
  have j2 := inject_of h130 h131 h132 h133 h134 h135 h136 z i
  have r12 := mix_of h137 h138 h139 h140 h141 h142 h143 h144 h145 (by decide) (by decide) i
  have r13 := mix_of h146 h147 h148 h149 h150 h151 h152 h153 h154 (by decide) (by decide) i
  have r14 := mix_of h155 h156 h157 h158 h159 h160 h161 h162 h163 (by decide) (by decide) i
  have r15 := mix_of h164 h165 h166 h167 h168 h169 h170 h171 h172 (by decide) (by decide) i
  have j3 := inject_of h173 h174 h175 h176 h177 h178 h179 z i
  have r16 := mix_of h180 h181 h182 h183 h184 h185 h186 h187 h188 (by decide) (by decide) i
  have r17 := mix_of h189 h190 h191 h192 h193 h194 h195 h196 h197 (by decide) (by decide) i
  have r18 := mix_of h198 h199 h200 h201 h202 h203 h204 h205 h206 (by decide) (by decide) i
  have r19 := mix_of h207 h208 h209 h210 h211 h212 h213 h214 h215 (by decide) (by decide) i
  have j4 := inject_of h216 h217 h218 h219 h220 h221 h222 z i
  have ht := third_of h1 h2 h3 z
  rw [j4, r19, r18, r17, r16, j3, r15, r14, r13, r12, j2, r11, r10, r9, r8, j1, r7, r6, r5, r4, j0, r3, r2, r1, r0, hs, ht]
  rfl

end Cert.ReferenceIdeal.Value

end
-- ==== Proof.RefMain.lean ====
/-
  The reference's line of operations read as one equation: its last buffer holds `result` of the argument's. The two calls of
  the hash enter by their two statements; what is left is the key, the counter of each element, and the softmax.
-/
module

public import proofs.«01_k».proof.Proof.RefHash
public import proofs.«01_k».proof.Proof.Draw
public import Idealize.ShloMosaic.Lib.Pointwise.Index
public import Idealize.ShloMosaic.Lib.Pipeline.Value

@[expose] public section

noncomputable section

namespace Cert.ReferenceIdeal.Value

open Idealize.ShloMosaic Idealize.ShloMosaic.StableHlo Cert.Line Cert.Threefry Cert.Draw Cert.ReferenceIdeal Facts₀

variable {F : FTy → Type} [FloatOps F] [Facts]

set_option maxHeartbeats 4000000

/-- The one index of a scalar. -/
def z0 : S_.Idx := fun a => a.elim0

theorem eq_one (j : S1.Idx) : j = ix1 0 := (eq_ix1 j).trans (congrArg ix1 (Subsingleton.elim _ _))

/-- Two words side by side, read at the first and at the second place. -/
theorem pair_fst {α : Type} (a b : S1.Idx → α) (h : Shape.Concatenates [S1, S1] S2 0) : concatenate S2 0 [⟨S1, a⟩, ⟨S1, b⟩] h (ix1 0) = a (ix1 0) :=
  concatenate_pair_apply_left 0 a b h (ix1 0) rfl (ix1 0) fun c => by obtain rfl : c = 0 := Subsingleton.elim _ _; rfl
theorem pair_snd {α : Type} (a b : S1.Idx → α) (h : Shape.Concatenates [S1, S1] S2 0) : concatenate S2 0 [⟨S1, a⟩, ⟨S1, b⟩] h (ix1 1) = b (ix1 0) :=
  concatenate_pair_apply_right 0 a b h (ix1 1) rfl rfl (ix1 0) (fun c hc => absurd (Subsingleton.elim _ _) hc) rfl
theorem slice_fst {α : Type} (a : S2.Idx → α) (h : S2.Slices ![0] S1) : extractStridedSlice S1 ![0] a h (ix1 0) = a (ix1 0) :=
  congrArg a (funext fun c => by obtain rfl : c = 0 := Subsingleton.elim _ _; rfl)
theorem slice_snd {α : Type} (a : S2.Idx → α) (h : S2.Slices ![1] S1) : extractStridedSlice S1 ![1] a h (ix1 0) = a (ix1 1) :=
  congrArg a (funext fun c => by obtain rfl : c = 0 := Subsingleton.elim _ _; rfl)
theorem scalar_of_one {α : Type} (a : S1.Idx → α) (h : S1.ShapeCasts S_) : shapeCast S_ a h z0 = a (ix1 0) :=
  congrArg a (eq_one _)

/-- A scalar spread over the array in two steps. -/
theorem spread_one {α : Type} (h : S1x1.BroadcastsInDim S128x100000 ![0, 1]) (h' : S_.BroadcastsInDim S1x1 ![]) (x : S_.Idx → α) (i : S128x100000.Idx) :
    broadcastInDim S128x100000 ![0, 1] h (broadcastInDim S1x1 ![] h' x) i = x z0 :=
  congrArg x (funext fun a => a.elim0)

/-- The difference of two scalars, spread likewise. -/
theorem spread_sub (h : S1x1.BroadcastsInDim S128x100000 ![0, 1]) (h' : S_.BroadcastsInDim S1x1 ![]) (x y : S_.Idx → F .f32) (i : S128x100000.Idx) :
    broadcastInDim S128x100000 ![0, 1] h (subf (broadcastInDim S1x1 ![] h' x) (broadcastInDim S1x1 ![] h' y)) i = FloatOps.subf (x z0) (y z0) :=
  congrArg₂ FloatOps.subf (spread_one h h' x i) (spread_one h h' y i)

/-- A shift right by a literal below the width, spread over the array. -/
theorem shrui_spread {w : Nat} (x : IVec S128x100000 w) (k : BitVec w) (hk : k.toNat < w) (h : S_.BroadcastsInDim S128x100000 ![])
    (i : S128x100000.Idx) : Host.shrui x (broadcastInDim S128x100000 ![] h (constantI S_ w k)) i = x i >>> k :=
  if_pos hk

attribute [local irreducible] fn_threefry2x32.body fn_threefry2x32_0.body

/-- Folding a number into a key: the hash of the number's two words under the key. -/
theorem fold_in :
    Does (nD := nD) (fn_threefry_fold_in.body (F := F) (.of main_v6) (.of main_c_2) main_call0) 12 248 fun W =>
      (rd W main_call0.v12 (ix1 0), rd W main_call0.v12 (ix1 1))
        = hash (rd W (.of main_v6) (ix1 0)) (rd W (.of main_v6) (ix1 1)) (Host.shrui (rd W (.of main_c_2)) (constantI S_ 32 32#32) z0)
            (andi (rd W (.of main_c_2)) (constantI S_ 32 4294967295#32) z0) := by
  unfold fn_threefry_fold_in.body
  refine Does.imp (by
    repeat (first
      | exact Does.nil
      | exact Does.const rfl
      | exact Does.map rfl (by decide)
      | exact Does.map₂ rfl (by decide) (by decide)
      | exact Does.reshape rfl (by decide)
      | exact fold_hash
      | apply Does.then)) ?_
  rintro W ⟨hc, h0, h1, hc0, h2, h3, h4, h5, h6, h7, h8, h9, h10, hh, h12⟩
  have e := hh z0 (ix1 0)
  rw [h12, pair_fst, pair_snd, e, h6, h8, h9, h10]
  show hash (shapeCast S_ (rd W main_call0.v5) _ z0) (shapeCast S_ (rd W main_call0.v7) _ z0) _ _ = _
  rw [scalar_of_one, scalar_of_one, h5, h7, slice_fst, slice_snd, slice_fst, slice_snd, h4, pair_fst, pair_snd, h1, h3,
    spread_apply _ _ _ z0, spread_apply _ _ _ z0, h0, h2, hc, hc0]

/-- The number of an element in row-major order, on 64 bits. -/
def count (i : S128x100000.Idx) : BitVec 64 := 100000#64 * BitVec.ofNat 64 (i 0).val + 1#64 * BitVec.ofNat 64 (i 1).val

/-- The uniform draws: each the number of its element, hashed under the key. -/
theorem uniform :
    Does (nD := nD) (fn_uniform.body (F := F) (.of main_v7) (.of main_cst) (.of main_cst_3) main_call1) 250 511 fun W =>
      rd W main_call1.v33 = fun i => uniformAt (rd W (.of main_cst) z0) (rd W (.of main_cst_3) z0)
        (hash (rd W (.of main_v7) (ix1 0)) (rd W (.of main_v7) (ix1 1)) ((count i >>> 32#64).setWidth 32) ((count i).setWidth 32)) := by
  unfold fn_uniform.body
  refine Does.imp (by
    repeat (first
      | exact Does.nil
      | exact Does.const rfl
      | exact Does.map rfl (by decide)
      | exact Does.map₂ rfl (by decide) (by decide)
      | exact Does.reshape rfl (by decide)
      | exact draw_hash
      | apply Does.then)) ?_
  rintro W ⟨h0, h1, h2, h3, h4, h5, h6, h7, h8, hc, h9, h10, hc0, h11, h12, h13, hc1, h14, h15, h16, h17, hh, h19, hc2, h20, h21,
    hc3, h22, h23, h24, hcst, h25, h26, h27, h28, h29, h30, h31, h32, h33⟩
  funext i
  have e := hh z0 i
  have e1 : rd W main_call1.v4 z0 = rd W (.of main_v7 : TRef sig ⟨S2, .i32⟩) (ix1 0) := by
    rw [h4]
    show shapeCast S_ (rd W main_call1.v3) _ z0 = _
    rw [scalar_of_one, h3, slice_fst]
  have e2 : rd W main_call1.v6 z0 = rd W (.of main_v7 : TRef sig ⟨S2, .i32⟩) (ix1 1) := by
    rw [h6]
    show shapeCast S_ (rd W main_call1.v5) _ z0 = _
    rw [scalar_of_one, h5, slice_snd]
  have e13 : rd W main_call1.v13 i = count i := by
    rw [h13, h10, h12, h9, h11, h7, h8, hc, hc0]
    rfl
  have e16 : rd W main_call1.v16 i = (count i).setWidth 32 := by
    rw [h16, ← e13]
    rfl
  have e17 : rd W main_call1.v17 i = (count i >>> 32#64).setWidth 32 := by
    rw [h17, h15, h14, hc1, ← e13]
    exact congrArg (BitVec.setWidth 32) (shrui_spread _ _ (by decide) _ i)
  rw [e1, e2, e16, e17] at e
  have eb : rd W main_call1.v23 i = ((rd W main_call1_call0.v171 i ^^^ rd W main_call1_call0.v175 i) >>> 9#32) ||| 1065353216#32 := by
    rw [h23, h22, hc3, h21, h20, hc2, h19]
    exact congrArg (· ||| 1065353216#32) (shrui_spread _ _ (by decide) _ i)
  rw [← e, h33, h32, h31, h30, h29, h28, h27, h26, h25, h24, hcst, h2, h1, h0]
  unfold uniformAt fraction
  rw [← eb]
  refine congrArg₂ FloatOps.maximumf (spread_one _ _ _ i) (congrArg₂ FloatOps.addf (congrArg₂ FloatOps.mulf rfl ?_) (spread_one _ _ _ i))
  exact spread_sub _ _ _ _ i

/-- The uniform draws of the whole array, between the smallest normal number and one, under the key that the seed gives. -/
def draws : S128x100000.Idx → F .f32 := fun i =>
  uniformAt (FloatOps.ofBits .f32 0x00800000#32) (FloatOps.ofBits .f32 0x3F800000#32)
    (hash 908003072#32 3252900185#32 ((count i >>> 32#64).setWidth 32) ((count i).setWidth 32))

/-- The logits plus the noise, over the temperature. -/
def scaled (x : S128x100000.Idx → F .f32) : S128x100000.Idx → F .f32 :=
  Host.divf (addf x (Host.negf (Host.log (Host.negf (Host.log draws)))))
    (broadcastInDim S128x100000 ![] bcast_S_S128x100000 (constant S_ .f32 0x3F000000#32))

/-- Each row's largest entry, at every column. -/
def rowMax (z : S128x100000.Idx → F .f32) : S128x100000.Idx → F .f32 :=
  broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf z (constant S_ .f32 0xFF800000#32) reducesTo_S128x100000_S128_d1 h_S_)))

/-- Each row's sum, at every column. -/
def rowSum (e : S128x100000.Idx → F .f32) : S128x100000.Idx → F .f32 :=
  broadcastInDim S128x100000 ![0, 1] bcast_S128x1_S128x100000_0_1 (broadcastInDim S128x1 ![0] bcast_S128_S128x1_0
    (Host.reduceAdd e (constant S_ .f32 0x00000000#32) reducesTo_S128x100000_S128_d1 h_S_))

/-- A row-wise softmax. -/
def softmax (z : S128x100000.Idx → F .f32) : S128x100000.Idx → F .f32 :=
  Host.divf (Host.exp (subf z (rowMax z))) (rowSum (Host.exp (subf z (rowMax z))))

/-- The reference's result as a function of its argument. -/
def result (x : S128x100000.Idx → F .f32) : S128x100000.Idx → F .f32 := softmax (scaled x)

/-- The key: the seed folded into the zero key. -/
theorem key_eq : hash 0#32 0#32 0#32 12345#32 = (908003072#32, 3252900185#32) := by decide

attribute [local irreducible] fn_threefry_fold_in.body fn_uniform.body

/-- The whole line: the last buffer holds `result` of the argument's. -/
theorem line (d : Dev nD) :
    Does (nD := nD) (main (F := F) d) 1 533 fun W => W (Proc.devRef .tc main_v26) = result (W (Proc.devRef .tc main_arg0)) := by
  unfold main
  refine Does.imp (by
    repeat (first
      | exact Does.nil
      | exact Does.const' rfl
      | exact Does.map' rfl (by decide)
      | exact Does.map₂' rfl (by decide) (by decide)
      | exact fold_in
      | exact uniform
      | apply Does.then)) ?_
  rintro W ⟨hc, hc0, h0, h1, h2, hc1, h3, h4, h5, h6, hc2, h7, hcst, hcst3, h8, h9, h10, h11, h12, h13, hcst4, h14, h15, hcst5, h16,
    hcst6, h17, h18, h19, h20, h21, h22, hcst7, h23, h24, h25, h26⟩
  have k0 : rd W (.of main_v6 : TRef sig ⟨S2, .i32⟩) (ix1 0) = 0#32 := by
    show W (Proc.devRef .tc main_v6) (ix1 0) = _
    rw [h6, h2, h1, h0, hc, hc0]
    refine (pair_fst _ _ _).trans ?_
    rfl
  have k1 : rd W (.of main_v6 : TRef sig ⟨S2, .i32⟩) (ix1 1) = 0#32 := by
    show W (Proc.devRef .tc main_v6) (ix1 1) = _
    rw [h6, h5, h4, h3, hc, hc1]
    refine (pair_snd _ _ _).trans ((spread_apply _ _ _ z0).trans ?_)
    show 0#32 &&& 4294967295#32 = 0#32
    decide
  have k2 : rd W (.of main_c_2 : TRef sig ⟨S_, .i32⟩) = constantI S_ 32 12345#32 := hc2
  rw [k0, k1, k2, show Host.shrui (constantI S_ 32 12345#32) (constantI S_ 32 32#32) z0 = 0#32 from rfl,
    show andi (constantI S_ 32 12345#32) (constantI S_ 32 4294967295#32) z0 = 12345#32 from rfl, key_eq] at h7
  have hd : W (Proc.devRef .tc main_v8) = draws := by
    refine h8.trans ?_
    have e0 : rd W (.of main_v7 : TRef sig ⟨S2, .i32⟩) (ix1 0) = 908003072#32 := (Prod.ext_iff.mp h7).1
    have e1 : rd W (.of main_v7 : TRef sig ⟨S2, .i32⟩) (ix1 1) = 3252900185#32 := (Prod.ext_iff.mp h7).2
    rw [e0, e1, show rd W (.of main_cst : TRef sig ⟨S_, .f32⟩) = _ from hcst, show rd W (.of main_cst_3 : TRef sig ⟨S_, .f32⟩) = _ from hcst3]
    rfl
  have hz : W (Proc.devRef .tc main_v15) = scaled (W (Proc.devRef .tc main_arg0)) := by
    rw [h15, h14, hcst4, h13, h12, h11, h10, h9, hd]
    rfl
  have hm : W (Proc.devRef .tc main_v20) = rowMax (W (Proc.devRef .tc main_v15)) := by
    rw [h20, h19, h18, h17, hcst6, h16, hcst5]
    rfl
  rw [h26, h25, h24, h23, hcst7, h22, h21, hm, hz]
  rfl

end Cert.ReferenceIdeal.Value

end
-- ==== Proof.RefValue.lean ====
/-
  What the reference's result holds, in exact arithmetic: the softmax of each row of doubled sums of an element and its noise,
  the noise being the one of the element's number in row-major order.
-/
module

public import proofs.«01_k».proof.Proof.RefMain
public import proofs.«01_k».proof.Proof.Rows
public import proofs.«01_k».proof.Proof.Softmax
public import proofs.«01_k».proof.Proof.DrawReal
import Mathlib.Tactic.Ring
import Mathlib.Tactic.NormNum

@[expose] public section

noncomputable section

namespace Cert.ReferenceIdeal.Value

open Idealize.ShloMosaic Cert.Threefry Cert.Draw Cert.Softmax Cert.ReferenceIdeal Facts₀

variable [Facts]

/-- The number of the element at row `r` and column `k`. -/
def number (r : Fin 128) (k : Fin 100000) : Word := BitVec.ofNat 32 (r.val * 100000 + k.val)

theorem count_eq (r : Fin 128) (k : Fin 100000) : count (ix2 r k) = BitVec.ofNat 64 (r.val * 100000 + k.val) := by
  rw [BitVec.ofNat_add, BitVec.ofNat_mul, BitVec.mul_comm]
  show 100000#64 * BitVec.ofNat 64 r.val + 1#64 * BitVec.ofNat 64 k.val = _
  rw [BitVec.one_mul]

/-- The numbers fit one word: the high word of a counter is zero and the low one the number. -/
theorem high_eq (r : Fin 128) (k : Fin 100000) : (count (ix2 r k) >>> 32#64).setWidth 32 = 0#32 := by
  have hr := r.isLt
  have hk := k.isLt
  rw [count_eq]
  have e : BitVec.ofNat 64 (r.val * 100000 + k.val) >>> 32#64 = 0#64 := by
    apply BitVec.eq_of_toNat_eq
    show (BitVec.ofNat 64 (r.val * 100000 + k.val) >>> 32).toNat = 0
    rw [BitVec.toNat_ushiftRight, BitVec.toNat_ofNat, Nat.mod_eq_of_lt (by omega), Nat.shiftRight_eq_div_pow]
    exact Nat.div_eq_of_lt (by omega)
  rw [e]
  rfl

theorem low_eq (r : Fin 128) (k : Fin 100000) : (count (ix2 r k)).setWidth 32 = number r k := by
  rw [count_eq]
  exact BitVec.setWidth_ofNat_of_le (by decide) _

theorem draws_apply (r : Fin 128) (k : Fin 100000) : draws (F := Ideal) (ix2 r k) = drawAt (number r k) := by
  unfold draws drawAt words
  rw [high_eq, low_eq]
  rfl

theorem half_eq : Ideal.ofBits .f32 0x3F000000#32 = ((1 / 2 : ℝ) : EReal) := by
  simp [Ideal.ofBits, Ideal.ieee, -EReal.coe_mul]
  norm_num

theorem bot_eq : Ideal.ofBits .f32 0xFF800000#32 = ⊥ := by simp [Ideal.ofBits, Ideal.ieee]

/-- An element and its noise, doubled. -/
theorem scaled_apply (x : S128x100000.Idx → Ideal .f32) (r : Fin 128) (k : Fin 100000) :
    scaled x (ix2 r k) = doubled (x (ix2 r k)) (noise (number r k)) := by
  unfold scaled
  rw [Host.divf_apply, addf_apply, Host.negf_apply, Host.log_apply, Host.negf_apply, Host.log_apply, Threefry.spread_apply _ _ _ z0,
    constant_apply, draws_apply]
  show Ideal.div (x (ix2 r k) + -Ideal.log (-Ideal.log (drawAt (F := Ideal) (number r k)))) (Ideal.ofBits .f32 0x3F000000#32) = _
  rw [half_eq, noise_eq]
  rfl

theorem rowMax_apply (z : S128x100000.Idx → Ideal .f32) (r : Fin 128) (k : Fin 100000) :
    rowMax z (ix2 r k) = greatest fun j => z (ix2 r j) := by
  unfold rowMax
  rw [Rows.hostSpread_apply, Rows.hostColumn_apply, maximumf_apply, Rows.hostMax_apply]
  show max (Ideal.ofBits .f32 0xFF800000#32) (Finset.univ.fold max (Ideal.ofBits .f32 0xFF800000#32) _) = _
  rw [bot_eq, max_eq_right bot_le]
  rfl

theorem rowSum_apply (e : S128x100000.Idx → Ideal .f32) (r : Fin 128) (k : Fin 100000) :
    rowSum e (ix2 r k) = 0 + ∑ j : Fin 100000, e (ix2 r j) := by
  unfold rowSum
  rw [Rows.hostSpread_apply, Rows.hostColumn_apply, Rows.hostSum_apply]
  exact congrArg (· + _) Ideal.ofBits_zero_f32

/-- An exponential of the softmax. -/
theorem exp_apply (x : S128x100000.Idx → Ideal .f32) (r : Fin 128) (k : Fin 100000) :
    Host.exp (subf (scaled x) (rowMax (scaled x))) (ix2 r k)
      = Ideal.exp (doubled (x (ix2 r k)) (noise (number r k)) - greatest fun j => doubled (x (ix2 r j)) (noise (number r j))) := by
  rw [Host.exp_apply, subf_apply, rowMax_apply, scaled_apply, funext fun j => scaled_apply x r j]
  rfl

/-- The reference's result on a row. -/
theorem result_apply (x : S128x100000.Idx → Ideal .f32) (r : Fin 128) (k : Fin 100000) :
    result x (ix2 r k)
      = Ideal.div (Ideal.exp (doubled (x (ix2 r k)) (noise (number r k)) - greatest fun j => doubled (x (ix2 r j)) (noise (number r j))))
          (0 + ∑ i, Ideal.exp (doubled (x (ix2 r i)) (noise (number r i)) - greatest fun j => doubled (x (ix2 r j)) (noise (number r j)))) := by
  unfold result softmax
  rw [Host.divf_apply, rowSum_apply, exp_apply, Finset.sum_congr rfl fun j _ => exp_apply x r j]
  rfl

end Cert.ReferenceIdeal.Value

end
-- ==== Proof.RefRun.lean ====
/- The reference's runs: what its last buffer holds, its argument unchanged, its semaphores at zero. -/
module

public import proofs.«01_k».proof.Proof.RefMain
public import Idealize.ShloMosaic.Lib.Quiescent

@[expose] public section

noncomputable section

namespace Cert.ReferenceIdeal.Value

open Idealize.ShloMosaic Idealize.ShloMosaic.StableHlo Idealize.SL.Sem Cert.Line Cert.ReferenceIdeal

variable {F : FTy → Type} [FloatOps F] [Facts]
variable (m : (ℓ : Loc nD τ sig) → Buf (Elt F) ℓ) (ρ : Dev nD → PrngReg)

/-- Every execution ends with the result array at `result` of the argument, and the argument unchanged. -/
theorem run : θ_run defs (onTc (τ := τ) (main (F := F))) ⟨m, fun _ => 0, ρ⟩ fun r => ∀ c : Dev nD,
      r.2.mem ((c.tc : Thread nD τ).loc main_v26) = result (m ((c.tc : Thread nD τ).loc main_arg0))
      ∧ r.2.mem ((c.tc : Thread nD τ).loc main_arg0) = m ((c.tc : Thread nD τ).loc main_arg0) :=
  (θ_run defs _ _).mono (fun r h c => by
    obtain ⟨W, hW, hm, hl⟩ := h c
    have ha := hl main_arg0 (by decide)
    refine ⟨?_, ha⟩
    rw [hm main_v26, hW, ← hm main_arg0, ha]) (Does.run (line (F := F)) (by decide) (by decide) m ρ)

/-- The argument ends unchanged and the semaphores at zero. -/
theorem quiescent : θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.ReferenceIdeal.Value

end
-- ==== Proof.Claims.lean ====
/-
  The value claim: under the precondition the kernel's result and the reference's are the same array of extended reals.
-/
module

public import proofs.«01_k».proof.Defs
public import proofs.«01_k».proof.Proof.KEq
public import proofs.«01_k».proof.Proof.Pre
public import proofs.«01_k».proof.Proof.RefValue
public import proofs.«01_k».proof.Proof.RefRun
public import proofs.«01_k».proof.Proof.Gen.ReferenceIdeal

@[expose] public section

noncomputable section

namespace Cert.Claims

open Idealize.ShloMosaic Idealize.SL.Sem Cert.Draw

/-- The two results agree wherever every row's greatest element is real: at each element both are the same quotient. -/
theorem result_eq [Cert.ReferenceIdeal.Facts] (x : (⟨2, ![128, 100000]⟩ : Shape).Idx → EReal)
    (h : ∀ r : Fin 128, (⊥ < Softmax.greatest fun k => x (ix2 r k)) ∧ (Softmax.greatest fun k => x (ix2 r k)) < ⊤) :
    Cert.ReferenceIdeal.Value.result (F := Ideal) x = Cert.KernelIdeal.Value.result (F := Ideal) x := by
  funext i
  obtain ⟨r, k, rfl⟩ : ∃ (r : Fin 128) (k : Fin 100000), i = ix2 r k := ⟨i 0, i 1, eq_ix2 i⟩
  obtain ⟨z, hz⟩ := Softmax.greatest_doubled (fun k => x (ix2 r k)) (fun k => noise (Cert.ReferenceIdeal.Value.number r k)) (h r).1 (h r).2
  rw [Cert.ReferenceIdeal.Value.result_apply, hz]
  refine (Softmax.softmax_eq (fun k => x (ix2 r k)) (fun k => noise (Cert.ReferenceIdeal.Value.number r k)) z (h r).1 (h r).2 k).trans ?_
  exact (Cert.KernelIdeal.Value.result_apply x r k (h r).1 (h r).2).symm

/-- From memories that agree on the argument, both runs end with the result that the kernel's run computes. -/
theorem algebraic [Cert.ReferenceIdeal.Facts] [Cert.Pre_row_max_finite.Facts] :
    Cert.algebraic_KernelIdeal_ReferenceIdeal_pre_row_max_finite (hKernelIdeal := Cert.KernelIdeal.Gen.facts) := by
  intro m ρ m' ρ' hpre hagree
  refine ⟨fun c => Cert.KernelIdeal.Value.result (F := Ideal) (m ((c.tc : Thread Cert.KernelIdeal.nD Cert.KernelIdeal.τ).loc Cert.KernelIdeal.main_arg0)),
    Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  rw [hagree c]
  exact result_eq _ fun r => Cert.Pre_row_max_finite.greatest_real _ (hpre c) r

end Cert.Claims

end
-- ==== Proof.lean ====
/-
  The certificate: each program runs and leaves its argument and its semaphores as they were, the kernel read in exact
  arithmetic is the kernel's own text, and in exact arithmetic it computes the reference wherever every row's greatest
  element is finite.
-/
module

public import proofs.«01_k».proof.Defs
public import proofs.«01_k».proof.Proof.Gen.Kernel
public import proofs.«01_k».proof.Proof.KFrame
public import proofs.«01_k».proof.Proof.Gen.KernelIdeal
public import proofs.«01_k».proof.Proof.Gen.ReferenceIdeal
public import proofs.«01_k».proof.Proof.Claims

@[expose] public section

noncomputable section

namespace Cert.Proof

open Idealize.ShloMosaic Idealize.SL.Sem

theorem claim : Cert.Claim :=
  letI := Cert.ReferenceIdeal.Gen.facts
  letI := Cert.Pre_row_max_finite.facts
  ⟨Cert.Kernel.Gen.facts, Cert.KernelIdeal.Gen.facts, Cert.ReferenceIdeal.Gen.facts, Cert.Pre_row_max_finite.facts,
    fun m ρ _ => Cert.Kernel.Value.quiescent m ρ,
    fun m ρ _ => Cert.KernelIdeal.Value.quiescent m ρ,
    fun m ρ _ => Cert.KernelIdeal.Value.quiescent m ρ,
    fun m ρ _ => Cert.ReferenceIdeal.Value.quiescent m ρ,
    fun m ρ _ => Cert.ReferenceIdeal.Value.quiescent m ρ,
    trivial,
    Cert.Claims.algebraic⟩

end Cert.Proof

end
